-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v350) = v0 c
          ∧ r.2.mem ((c.tc : Thread Cert.ReferenceIdeal.nD Cert.ReferenceIdeal.τ).loc Cert.ReferenceIdeal.main_v345) = v1 c
          ∧ r.2.mem ((c.tc : Thread Cert.ReferenceIdeal.nD Cert.ReferenceIdeal.τ).loc Cert.ReferenceIdeal.main_v321) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x10000x128 : Shape := ⟨3, ![4, 10000, 128]⟩
abbrev S4x2x320000 : Shape := ⟨3, ![4, 2, 320000]⟩
abbrev S4x320000 : Shape := ⟨2, ![4, 320000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S10000x1 : Shape := ⟨2, ![10000, 1]⟩
abbrev S10000x128 : Shape := ⟨2, ![10000, 128]⟩
abbrev S4x1000x128 : Shape := ⟨3, ![4, 1000, 128]⟩
abbrev S1000x1 : Shape := ⟨2, ![1000, 1]⟩
abbrev S1000x128 : Shape := ⟨2, ![1000, 128]⟩
abbrev S128x512 : Shape := ⟨2, ![128, 512]⟩
abbrev S256x512 : Shape := ⟨2, ![256, 512]⟩
abbrev S1x1000x128 : Shape := ⟨3, ![1, 1000, 128]⟩
abbrev S1000x512 : Shape := ⟨2, ![1000, 512]⟩
abbrev S1x128 : Shape := ⟨2, ![1, 128]⟩
abbrev S1000x256 : Shape := ⟨2, ![1000, 256]⟩
abbrev S1x1 : Shape := ⟨2, ![1, 1]⟩
abbrev S10000 : Shape := ⟨1, ![10000]⟩

abbrev nBuf : Space → Nat
  | .hbm => 38
  | .vmem => 33
  | .smem => 0
  | _ => 0

abbrev bufTy : (tb : Table) → Fin (tcTables nBuf tb) → BufTy
  | .hbm, ⟨0, _⟩ => ⟨S4x10000x128, .f32⟩
  | .hbm, ⟨1, _⟩ => ⟨S4x2x320000, .i32⟩
  | .hbm, ⟨2, _⟩ => ⟨S4x320000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128x128, .f32⟩
  | .hbm, ⟨20, _⟩ => ⟨S128, .f32⟩
  | .hbm, ⟨21, _⟩ => ⟨S128x128, .f32⟩
  | .hbm, ⟨22, _⟩ => ⟨S128, .f32⟩
  | .hbm, ⟨23, _⟩ => ⟨S128x128, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S128, .f32⟩
  | .hbm, ⟨32, _⟩ => ⟨S128x1, .f32⟩
  | .hbm, ⟨33, _⟩ => ⟨S1, .f32⟩
  | .hbm, ⟨34, _⟩ => ⟨S10000x1, .f32⟩
  | .hbm, ⟨35, _⟩ => ⟨S10000x128, .f32⟩
  | .hbm, ⟨36, _⟩ => ⟨S10000x128, .f32⟩
  | .hbm, ⟨37, _⟩ => ⟨S10000, .f32⟩
  | .local _ .vmem, ⟨0, _⟩ => ⟨S4x1000x128, .f32⟩
  | .local _ .vmem, ⟨1, _⟩ => ⟨S4x1000x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128, .f32⟩
  | .local _ .vmem, ⟨11, _⟩ => ⟨S128, .f32⟩
  | .local _ .vmem, ⟨12, _⟩ => ⟨S128, .f32⟩
  | .local _ .vmem, ⟨13, _⟩ => ⟨S128, .f32⟩
  | .local _ .vmem, ⟨14, _⟩ => ⟨S128, .f32⟩
  | .local _ .vmem, ⟨15, _⟩ => ⟨S128, .f32⟩
  | .local _ .vmem, ⟨16, _⟩ => ⟨S128, .f32⟩
  | .local _ .vmem, ⟨17, _⟩ => ⟨S128, .f32⟩
  | .local _ .vmem, ⟨18, _⟩ => ⟨S128, .f32⟩
  | .local _ .vmem, ⟨19, _⟩ => ⟨S128, .f32⟩
  | .local _ .vmem, ⟨20, _⟩ => ⟨S128, .f32⟩
  | .local _ .vmem, ⟨21, _⟩ => ⟨S128, .f32⟩
  | .local _ .vmem, ⟨22, _⟩ => ⟨S128, .f32⟩
  | .local _ .vmem, ⟨23, _⟩ => ⟨S128, .f32⟩
  | .local _ .vmem, ⟨24, _⟩ => ⟨S128, .f32⟩
  | .local _ .vmem, ⟨25, _⟩ => ⟨S128x1, .f32⟩
  | .local _ .vmem, ⟨26, _⟩ => ⟨S1, .f32⟩
  | .local _ .vmem, ⟨27, _⟩ => ⟨S1000x1, .f32⟩
  | .local _ .vmem, ⟨28, _⟩ => ⟨S1000x1, .f32⟩
  | .local _ .vmem, ⟨29, _⟩ => ⟨S1000x128, .f32⟩
  | .local _ .vmem, ⟨30, _⟩ => ⟨S1000x128, .f32⟩
  | .local _ .vmem, ⟨31, _⟩ => ⟨S1000x128, .f32⟩
  | .local _ .vmem, ⟨32, _⟩ => ⟨S1000x128, .f32⟩
  | _, _ => ⟨S4x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0_0 : Ref sig .tc := ⟨.hbm, 34, rfl⟩
abbrev main_v0_1 : Ref sig .tc := ⟨.hbm, 35, rfl⟩
abbrev main_v0_2 : Ref sig .tc := ⟨.hbm, 36, rfl⟩
abbrev main_v1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg26_1 : Ref sig .tc := ⟨.vmem, 28, rfl⟩
abbrev cc0_stg27_0 : Ref sig .tc := ⟨.vmem, 29, rfl⟩
abbrev cc0_stg27_1 : Ref sig .tc := ⟨.vmem, 30, rfl⟩
abbrev cc0_stg28_0 : Ref sig .tc := ⟨.vmem, 31, rfl⟩
abbrev cc0_stg28_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem26_0 : DmaSem sig := 27
abbrev cc0_sem26_1 : DmaSem sig := 28
abbrev cc0_sem27_0 : DmaSem sig := 29
abbrev cc0_sem27_1 : DmaSem sig := 30
abbrev cc0_sem28_0 : DmaSem sig := 31
abbrev cc0_sem28_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S128x1 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S1000x1 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1000x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1000x128 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]
-- ==== ReferenceIdeal.lean ====
abbrev S4x10000x128 : Shape := ⟨3, ![4, 10000, 128]⟩
abbrev S4x2x320000 : Shape := ⟨3, ![4, 2, 320000]⟩
abbrev S4x320000 : Shape := ⟨2, ![4, 320000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S10000x128 : Shape := ⟨2, ![10000, 128]⟩
abbrev S1x10000x128 : Shape := ⟨3, ![1, 10000, 128]⟩
abbrev S1x128 : Shape := ⟨2, ![1, 128]⟩
abbrev S10000x1 : Shape := ⟨2, ![10000, 1]⟩
abbrev S1x1 : Shape := ⟨2, ![1, 1]⟩
abbrev S10000 : Shape := ⟨1, ![10000]⟩

abbrev nBuf : Space → Nat
  | .hbm => 411
  | .vmem => 0
  | .smem => 0
  | _ => 0

abbrev hbmTy0_0 (i : Nat) : BufTy := match i % 128 with
  | 0 => ⟨S4x10000x128, .f32⟩
  | 1 => ⟨S4x2x320000, .i32⟩
  | 2 => ⟨S4x320000, .f32⟩
  | 3 => ⟨S128x128, .f32⟩
  | 4 => ⟨S128, .f32⟩
  | 5 => ⟨S128x128, .f32⟩
  | 6 => ⟨S128, .f32⟩
  | 7 => ⟨S128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S128x128, .f32⟩
  | 22 => ⟨S128, .f32⟩
  | 23 => ⟨S128x128, .f32⟩
  | 24 => ⟨S128, .f32⟩
  | 25 => ⟨S128, .f32⟩
  | 26 => ⟨S128, .f32⟩
  | 27 => ⟨S128, .f32⟩
  | 28 => ⟨S128, .f32⟩
  | 29 => ⟨S128, .f32⟩
  | 30 => ⟨S128, .f32⟩
  | 31 => ⟨S128, .f32⟩
  | 32 => ⟨S128x1, .f32⟩
  | 33 => ⟨S1, .f32⟩
  | 34 => ⟨S_, .f32⟩
  | 35 => ⟨S10000x128, .f32⟩
  | 36 => ⟨S_, .f32⟩
  | 37 => ⟨S10000x128, .f32⟩
  | 38 => ⟨S1x10000x128, .f32⟩
  | 39 => ⟨S10000x128, .f32⟩
  | 40 => ⟨S10000x128, .f32⟩
  | 41 => ⟨S1x128, .f32⟩
  | 42 => ⟨S10000x128, .f32⟩
  | 43 => ⟨S10000x128, .f32⟩
  | 44 => ⟨S10000x128, .f32⟩
  | 45 => ⟨S10000x128, .f32⟩
  | 46 => ⟨S1x128, .f32⟩
  | 47 => ⟨S10000x128, .f32⟩
  | 48 => ⟨S10000x128, .f32⟩
  | 49 => ⟨S1x128, .f32⟩
  | 50 => ⟨S10000x128, .f32⟩
  | 51 => ⟨S10000x128, .f32⟩
  | 52 => ⟨S10000x128, .f32⟩
  | 53 => ⟨S1x128, .f32⟩
  | 54 => ⟨S10000x128, .f32⟩
  | 55 => ⟨S10000x128, .f32⟩
  | 56 => ⟨S10000x128, .f32⟩
  | 57 => ⟨S10000x128, .f32⟩
  | 58 => ⟨S_, .f32⟩
  | 59 => ⟨S10000x128, .f32⟩
  | 60 => ⟨S10000x128, .f32⟩
  | 61 => ⟨S_, .f32⟩
  | 62 => ⟨S10000x128, .f32⟩
  | 63 => ⟨S10000x128, .f32⟩
  | 64 => ⟨S10000x128, .f32⟩
  | 65 => ⟨S1x128, .f32⟩
  | 66 => ⟨S10000x128, .f32⟩
  | 67 => ⟨S10000x128, .f32⟩
  | 68 => ⟨S10000x128, .f32⟩
  | 69 => ⟨S10000x128, .f32⟩
  | 70 => ⟨S1x128, .f32⟩
  | 71 => ⟨S10000x128, .f32⟩
  | 72 => ⟨S10000x128, .f32⟩
  | 73 => ⟨S1x128, .f32⟩
  | 74 => ⟨S10000x128, .f32⟩
  | 75 => ⟨S10000x128, .f32⟩
  | 76 => ⟨S10000x128, .f32⟩
  | 77 => ⟨S1x128, .f32⟩
  | 78 => ⟨S10000x128, .f32⟩
  | 79 => ⟨S10000x128, .f32⟩
  | 80 => ⟨S10000x128, .f32⟩
  | 81 => ⟨S10000x128, .f32⟩
  | 82 => ⟨S_, .f32⟩
  | 83 => ⟨S10000x128, .f32⟩
  | 84 => ⟨S10000x128, .f32⟩
  | 85 => ⟨S_, .f32⟩
  | 86 => ⟨S10000x128, .f32⟩
  | 87 => ⟨S10000x128, .f32⟩
  | 88 => ⟨S10000x128, .f32⟩
  | 89 => ⟨S1x128, .f32⟩
  | 90 => ⟨S10000x128, .f32⟩
  | 91 => ⟨S10000x128, .f32⟩
  | 92 => ⟨S10000x128, .f32⟩
  | 93 => ⟨S10000x128, .f32⟩
  | 94 => ⟨S1x128, .f32⟩
  | 95 => ⟨S10000x128, .f32⟩
  | 96 => ⟨S10000x128, .f32⟩
  | 97 => ⟨S1x128, .f32⟩
  | 98 => ⟨S10000x128, .f32⟩
  | 99 => ⟨S10000x128, .f32⟩
  | 100 => ⟨S10000x128, .f32⟩
  | 101 => ⟨S10000x128, .f32⟩
  | 102 => ⟨S10000x128, .f32⟩
  | 103 => ⟨S10000x128, .f32⟩
  | 104 => ⟨S10000x128, .f32⟩
  | 105 => ⟨S1x128, .f32⟩
  | 106 => ⟨S10000x128, .f32⟩
  | 107 => ⟨S10000x128, .f32⟩
  | 108 => ⟨S10000x128, .f32⟩
  | 109 => ⟨S10000x128, .f32⟩
  | 110 => ⟨S1x128, .f32⟩
  | 111 => ⟨S10000x128, .f32⟩
  | 112 => ⟨S10000x128, .f32⟩
  | 113 => ⟨S1x128, .f32⟩
  | 114 => ⟨S10000x128, .f32⟩
  | 115 => ⟨S10000x128, .f32⟩
  | 116 => ⟨S10000x128, .f32⟩
  | 117 => ⟨S1x128, .f32⟩
  | 118 => ⟨S10000x128, .f32⟩
  | 119 => ⟨S10000x128, .f32⟩
  | 120 => ⟨S10000x128, .f32⟩
  | 121 => ⟨S10000x128, .f32⟩
  | 122 => ⟨S_, .f32⟩
  | 123 => ⟨S10000x128, .f32⟩
  | 124 => ⟨S10000x128, .f32⟩
  | 125 => ⟨S_, .f32⟩
  | 126 => ⟨S10000x128, .f32⟩
  | 127 => ⟨S10000x128, .f32⟩
  | _ => ⟨S4x10000x128, .f32⟩

abbrev hbmTy0_1 (i : Nat) : BufTy := match i % 128 with
  | 0 => ⟨S10000x128, .f32⟩
  | 1 => ⟨S10000x128, .f32⟩
  | 2 => ⟨S1x10000x128, .f32⟩
  | 3 => ⟨S10000x128, .f32⟩
  | 4 => ⟨S10000x128, .f32⟩
  | 5 => ⟨S1x128, .f32⟩
  | 6 => ⟨S10000x128, .f32⟩
  | 7 => ⟨S10000x128, .f32⟩
  | 8 => ⟨S10000x128, .f32⟩
  | 9 => ⟨S10000x128, .f32⟩
  | 10 => ⟨S1x128, .f32⟩
  | 11 => ⟨S10000x128, .f32⟩
  | 12 => ⟨S10000x128, .f32⟩
  | 13 => ⟨S1x128, .f32⟩
  | 14 => ⟨S10000x128, .f32⟩
  | 15 => ⟨S10000x128, .f32⟩
  | 16 => ⟨S10000x128, .f32⟩
  | 17 => ⟨S1x128, .f32⟩
  | 18 => ⟨S10000x128, .f32⟩
  | 19 => ⟨S10000x128, .f32⟩
  | 20 => ⟨S10000x128, .f32⟩
  | 21 => ⟨S10000x128, .f32⟩
  | 22 => ⟨S_, .f32⟩
  | 23 => ⟨S10000x128, .f32⟩
  | 24 => ⟨S10000x128, .f32⟩
  | 25 => ⟨S_, .f32⟩
  | 26 => ⟨S10000x128, .f32⟩
  | 27 => ⟨S10000x128, .f32⟩
  | 28 => ⟨S10000x128, .f32⟩
  | 29 => ⟨S1x128, .f32⟩
  | 30 => ⟨S10000x128, .f32⟩
  | 31 => ⟨S10000x128, .f32⟩
  | 32 => ⟨S10000x128, .f32⟩
  | 33 => ⟨S10000x128, .f32⟩
  | 34 => ⟨S1x128, .f32⟩
  | 35 => ⟨S10000x128, .f32⟩
  | 36 => ⟨S10000x128, .f32⟩
  | 37 => ⟨S1x128, .f32⟩
  | 38 => ⟨S10000x128, .f32⟩
  | 39 => ⟨S10000x128, .f32⟩
  | 40 => ⟨S10000x128, .f32⟩
  | 41 => ⟨S1x128, .f32⟩
  | 42 => ⟨S10000x128, .f32⟩
  | 43 => ⟨S10000x128, .f32⟩
  | 44 => ⟨S10000x128, .f32⟩
  | 45 => ⟨S10000x128, .f32⟩
  | 46 => ⟨S_, .f32⟩
  | 47 => ⟨S10000x128, .f32⟩
  | 48 => ⟨S10000x128, .f32⟩
  | 49 => ⟨S_, .f32⟩
  | 50 => ⟨S10000x128, .f32⟩
  | 51 => ⟨S10000x128, .f32⟩
  | 52 => ⟨S10000x128, .f32⟩
  | 53 => ⟨S1x128, .f32⟩
  | 54 => ⟨S10000x128, .f32⟩
  | 55 => ⟨S10000x128, .f32⟩
  | 56 => ⟨S10000x128, .f32⟩
  | 57 => ⟨S10000x128, .f32⟩
  | 58 => ⟨S1x128, .f32⟩
  | 59 => ⟨S10000x128, .f32⟩
  | 60 => ⟨S10000x128, .f32⟩
  | 61 => ⟨S1x128, .f32⟩
  | 62 => ⟨S10000x128, .f32⟩
  | 63 => ⟨S10000x128, .f32⟩
  | 64 => ⟨S10000x128, .f32⟩
  | 65 => ⟨S10000x128, .f32⟩
  | 66 => ⟨S10000x128, .f32⟩
  | 67 => ⟨S10000x128, .f32⟩
  | 68 => ⟨S10000x128, .f32⟩
  | 69 => ⟨S1x128, .f32⟩
  | 70 => ⟨S10000x128, .f32⟩
  | 71 => ⟨S10000x128, .f32⟩
  | 72 => ⟨S10000x128, .f32⟩
  | 73 => ⟨S10000x128, .f32⟩
  | 74 => ⟨S1x128, .f32⟩
  | 75 => ⟨S10000x128, .f32⟩
  | 76 => ⟨S10000x128, .f32⟩
  | 77 => ⟨S1x128, .f32⟩
  | 78 => ⟨S10000x128, .f32⟩
  | 79 => ⟨S10000x128, .f32⟩
  | 80 => ⟨S10000x128, .f32⟩
  | 81 => ⟨S1x128, .f32⟩
  | 82 => ⟨S10000x128, .f32⟩
  | 83 => ⟨S10000x128, .f32⟩
  | 84 => ⟨S10000x128, .f32⟩
  | 85 => ⟨S10000x128, .f32⟩
  | 86 => ⟨S_, .f32⟩
  | 87 => ⟨S10000x128, .f32⟩
  | 88 => ⟨S10000x128, .f32⟩
  | 89 => ⟨S_, .f32⟩
  | 90 => ⟨S10000x128, .f32⟩
  | 91 => ⟨S10000x128, .f32⟩
  | 92 => ⟨S10000x128, .f32⟩
  | 93 => ⟨S10000x128, .f32⟩
  | 94 => ⟨S1x10000x128, .f32⟩
  | 95 => ⟨S10000x128, .f32⟩
  | 96 => ⟨S10000x128, .f32⟩
  | 97 => ⟨S1x128, .f32⟩
  | 98 => ⟨S10000x128, .f32⟩
  | 99 => ⟨S10000x128, .f32⟩
  | 100 => ⟨S10000x128, .f32⟩
  | 101 => ⟨S10000x128, .f32⟩
  | 102 => ⟨S1x128, .f32⟩
  | 103 => ⟨S10000x128, .f32⟩
  | 104 => ⟨S10000x128, .f32⟩
  | 105 => ⟨S1x128, .f32⟩
  | 106 => ⟨S10000x128, .f32⟩
  | 107 => ⟨S10000x128, .f32⟩
  | 108 => ⟨S10000x128, .f32⟩
  | 109 => ⟨S1x128, .f32⟩
  | 110 => ⟨S10000x128, .f32⟩
  | 111 => ⟨S10000x128, .f32⟩
  | 112 => ⟨S10000x128, .f32⟩
  | 113 => ⟨S10000x128, .f32⟩
  | 114 => ⟨S_, .f32⟩
  | 115 => ⟨S10000x128, .f32⟩
  | 116 => ⟨S10000x128, .f32⟩
  | 117 => ⟨S_, .f32⟩
  | 118 => ⟨S10000x128, .f32⟩
  | 119 => ⟨S10000x128, .f32⟩
  | 120 => ⟨S10000x128, .f32⟩
  | 121 => ⟨S1x128, .f32⟩
  | 122 => ⟨S10000x128, .f32⟩
  | 123 => ⟨S10000x128, .f32⟩
  | 124 => ⟨S10000x128, .f32⟩
  | 125 => ⟨S10000x128, .f32⟩
  | 126 => ⟨S1x128, .f32⟩
  | 127 => ⟨S10000x128, .f32⟩
  | _ => ⟨S4x10000x128, .f32⟩

abbrev hbmTy0_2 (i : Nat) : BufTy := match i % 128 with
  | 0 => ⟨S10000x128, .f32⟩
  | 1 => ⟨S1x128, .f32⟩
  | 2 => ⟨S10000x128, .f32⟩
  | 3 => ⟨S10000x128, .f32⟩
  | 4 => ⟨S10000x128, .f32⟩
  | 5 => ⟨S1x128, .f32⟩
  | 6 => ⟨S10000x128, .f32⟩
  | 7 => ⟨S10000x128, .f32⟩
  | 8 => ⟨S10000x128, .f32⟩
  | 9 => ⟨S10000x128, .f32⟩
  | 10 => ⟨S_, .f32⟩
  | 11 => ⟨S10000x128, .f32⟩
  | 12 => ⟨S10000x128, .f32⟩
  | 13 => ⟨S_, .f32⟩
  | 14 => ⟨S10000x128, .f32⟩
  | 15 => ⟨S10000x128, .f32⟩
  | 16 => ⟨S10000x128, .f32⟩
  | 17 => ⟨S1x128, .f32⟩
  | 18 => ⟨S10000x128, .f32⟩
  | 19 => ⟨S10000x128, .f32⟩
  | 20 => ⟨S10000x128, .f32⟩
  | 21 => ⟨S10000x128, .f32⟩
  | 22 => ⟨S1x128, .f32⟩
  | 23 => ⟨S10000x128, .f32⟩
  | 24 => ⟨S10000x128, .f32⟩
  | 25 => ⟨S1x128, .f32⟩
  | 26 => ⟨S10000x128, .f32⟩
  | 27 => ⟨S10000x128, .f32⟩
  | 28 => ⟨S10000x128, .f32⟩
  | 29 => ⟨S10000x128, .f32⟩
  | 30 => ⟨S10000x128, .f32⟩
  | 31 => ⟨S10000x128, .f32⟩
  | 32 => ⟨S10000x128, .f32⟩
  | 33 => ⟨S1x128, .f32⟩
  | 34 => ⟨S10000x128, .f32⟩
  | 35 => ⟨S10000x128, .f32⟩
  | 36 => ⟨S10000x128, .f32⟩
  | 37 => ⟨S10000x128, .f32⟩
  | 38 => ⟨S1x128, .f32⟩
  | 39 => ⟨S10000x128, .f32⟩
  | 40 => ⟨S10000x128, .f32⟩
  | 41 => ⟨S1x128, .f32⟩
  | 42 => ⟨S10000x128, .f32⟩
  | 43 => ⟨S10000x128, .f32⟩
  | 44 => ⟨S10000x128, .f32⟩
  | 45 => ⟨S1x128, .f32⟩
  | 46 => ⟨S10000x128, .f32⟩
  | 47 => ⟨S10000x128, .f32⟩
  | 48 => ⟨S10000x128, .f32⟩
  | 49 => ⟨S10000x128, .f32⟩
  | 50 => ⟨S_, .f32⟩
  | 51 => ⟨S10000x128, .f32⟩
  | 52 => ⟨S10000x128, .f32⟩
  | 53 => ⟨S_, .f32⟩
  | 54 => ⟨S10000x128, .f32⟩
  | 55 => ⟨S10000x128, .f32⟩
  | 56 => ⟨S10000x128, .f32⟩
  | 57 => ⟨S10000x128, .f32⟩
  | 58 => ⟨S1x10000x128, .f32⟩
  | 59 => ⟨S10000x128, .f32⟩
  | 60 => ⟨S10000x128, .f32⟩
  | 61 => ⟨S1x128, .f32⟩
  | 62 => ⟨S10000x128, .f32⟩
  | 63 => ⟨S10000x128, .f32⟩
  | 64 => ⟨S10000x128, .f32⟩
  | 65 => ⟨S10000x128, .f32⟩
  | 66 => ⟨S1x128, .f32⟩
  | 67 => ⟨S10000x128, .f32⟩
  | 68 => ⟨S10000x128, .f32⟩
  | 69 => ⟨S1x128, .f32⟩
  | 70 => ⟨S10000x128, .f32⟩
  | 71 => ⟨S10000x128, .f32⟩
  | 72 => ⟨S10000x128, .f32⟩
  | 73 => ⟨S1x128, .f32⟩
  | 74 => ⟨S10000x128, .f32⟩
  | 75 => ⟨S10000x128, .f32⟩
  | 76 => ⟨S10000x128, .f32⟩
  | 77 => ⟨S10000x128, .f32⟩
  | 78 => ⟨S_, .f32⟩
  | 79 => ⟨S10000x128, .f32⟩
  | 80 => ⟨S10000x128, .f32⟩
  | 81 => ⟨S_, .f32⟩
  | 82 => ⟨S10000x128, .f32⟩
  | 83 => ⟨S10000x128, .f32⟩
  | 84 => ⟨S10000x128, .f32⟩
  | 85 => ⟨S1x128, .f32⟩
  | 86 => ⟨S10000x128, .f32⟩
  | 87 => ⟨S10000x128, .f32⟩
  | 88 => ⟨S10000x128, .f32⟩
  | 89 => ⟨S10000x128, .f32⟩
  | 90 => ⟨S1x128, .f32⟩
  | 91 => ⟨S10000x128, .f32⟩
  | 92 => ⟨S10000x128, .f32⟩
  | 93 => ⟨S1x128, .f32⟩
  | 94 => ⟨S10000x128, .f32⟩
  | 95 => ⟨S10000x128, .f32⟩
  | 96 => ⟨S10000x128, .f32⟩
  | 97 => ⟨S1x128, .f32⟩
  | 98 => ⟨S10000x128, .f32⟩
  | 99 => ⟨S10000x128, .f32⟩
  | 100 => ⟨S10000x128, .f32⟩
  | 101 => ⟨S10000x128, .f32⟩
  | 102 => ⟨S_, .f32⟩
  | 103 => ⟨S10000x128, .f32⟩
  | 104 => ⟨S10000x128, .f32⟩
  | 105 => ⟨S_, .f32⟩
  | 106 => ⟨S10000x128, .f32⟩
  | 107 => ⟨S10000x128, .f32⟩
  | 108 => ⟨S10000x128, .f32⟩
  | 109 => ⟨S1x128, .f32⟩
  | 110 => ⟨S10000x128, .f32⟩
  | 111 => ⟨S10000x128, .f32⟩
  | 112 => ⟨S10000x128, .f32⟩
  | 113 => ⟨S10000x128, .f32⟩
  | 114 => ⟨S1x128, .f32⟩
  | 115 => ⟨S10000x128, .f32⟩
  | 116 => ⟨S10000x128, .f32⟩
  | 117 => ⟨S1x128, .f32⟩
  | 118 => ⟨S10000x128, .f32⟩
  | 119 => ⟨S10000x128, .f32⟩
  | 120 => ⟨S10000x128, .f32⟩
  | 121 => ⟨S10000x128, .f32⟩
  | 122 => ⟨S10000x128, .f32⟩
  | 123 => ⟨S10000x128, .f32⟩
  | 124 => ⟨S10000x128, .f32⟩
  | 125 => ⟨S1x128, .f32⟩
  | 126 => ⟨S10000x128, .f32⟩
  | 127 => ⟨S10000x128, .f32⟩
  | _ => ⟨S4x10000x128, .f32⟩

abbrev hbmTy0_3 (i : Nat) : BufTy := match i % 128 with
  | 0 => ⟨S10000x128, .f32⟩
  | 1 => ⟨S10000x128, .f32⟩
  | 2 => ⟨S1x128, .f32⟩
  | 3 => ⟨S10000x128, .f32⟩
  | 4 => ⟨S10000x128, .f32⟩
  | 5 => ⟨S1x128, .f32⟩
  | 6 => ⟨S10000x128, .f32⟩
  | 7 => ⟨S10000x128, .f32⟩
  | 8 => ⟨S10000x128, .f32⟩
  | 9 => ⟨S1x128, .f32⟩
  | 10 => ⟨S10000x128, .f32⟩
  | 11 => ⟨S10000x128, .f32⟩
  | 12 => ⟨S10000x128, .f32⟩
  | 13 => ⟨S10000x128, .f32⟩
  | 14 => ⟨S_, .f32⟩
  | 15 => ⟨S10000x128, .f32⟩
  | 16 => ⟨S10000x128, .f32⟩
  | 17 => ⟨S_, .f32⟩
  | 18 => ⟨S10000x128, .f32⟩
  | 19 => ⟨S10000x128, .f32⟩
  | 20 => ⟨S10000x128, .f32⟩
  | 21 => ⟨S10000x128, .f32⟩
  | 22 => ⟨S10000x1, .f32⟩
  | 23 => ⟨S1x1, .f32⟩
  | 24 => ⟨S10000x1, .f32⟩
  | 25 => ⟨S10000x1, .f32⟩
  | 26 => ⟨S10000, .f32⟩
  | _ => ⟨S4x10000x128, .f32⟩

abbrev hbmTy (i : Nat) : BufTy := match i / 128 with
  | 0 => hbmTy0_0 i
  | 1 => hbmTy0_1 i
  | 2 => hbmTy0_2 i
  | 3 => hbmTy0_3 i
  | _ => ⟨S4x10000x128, .f32⟩

abbrev bufTy : (tb : Table) → Fin (tcTables nBuf tb) → BufTy
  | .hbm, ⟨i, _⟩ => hbmTy i
  | _, _ => ⟨S4x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_cst : Ref sig .tc := ⟨.hbm, 34, rfl⟩
abbrev main_v0 : Ref sig .tc := ⟨.hbm, 35, rfl⟩
abbrev main_cst_0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_1 : Ref sig .tc := ⟨.hbm, 58, rfl⟩
abbrev main_v22 : Ref sig .tc := ⟨.hbm, 59, rfl⟩
abbrev main_v23 : Ref sig .tc := ⟨.hbm, 60, rfl⟩
abbrev main_cst_2 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_cst_3 : Ref sig .tc := ⟨.hbm, 82, rfl⟩
abbrev main_v44 : Ref sig .tc := ⟨.hbm, 83, rfl⟩
abbrev main_v45 : Ref sig .tc := ⟨.hbm, 84, rfl⟩
abbrev main_cst_4 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_5 : Ref sig .tc := ⟨.hbm, 122, rfl⟩
abbrev main_v82 : Ref sig .tc := ⟨.hbm, 123, rfl⟩
abbrev main_v83 : Ref sig .tc := ⟨.hbm, 124, rfl⟩
abbrev main_cst_6 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_cst_7 : Ref sig .tc := ⟨.hbm, 150, rfl⟩
abbrev main_v108 : Ref sig .tc := ⟨.hbm, 151, rfl⟩
abbrev main_v109 : Ref sig .tc := ⟨.hbm, 152, rfl⟩
abbrev main_cst_8 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_cst_9 : Ref sig .tc := ⟨.hbm, 174, rfl⟩
abbrev main_v130 : Ref sig .tc := ⟨.hbm, 175, rfl⟩
abbrev main_v131 : Ref sig .tc := ⟨.hbm, 176, rfl⟩
abbrev main_cst_10 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_cst_11 : Ref sig .tc := ⟨.hbm, 214, rfl⟩
abbrev main_v168 : Ref sig .tc := ⟨.hbm, 215, rfl⟩
abbrev main_v169 : Ref sig .tc := ⟨.hbm, 216, rfl⟩
abbrev main_cst_12 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_cst_13 : Ref sig .tc := ⟨.hbm, 242, rfl⟩
abbrev main_v194 : Ref sig .tc := ⟨.hbm, 243, rfl⟩
abbrev main_v195 : Ref sig .tc := ⟨.hbm, 244, rfl⟩
abbrev main_cst_14 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_cst_15 : Ref sig .tc := ⟨.hbm, 266, rfl⟩
abbrev main_v216 : Ref sig .tc := ⟨.hbm, 267, rfl⟩
abbrev main_v217 : Ref sig .tc := ⟨.hbm, 268, rfl⟩
abbrev main_cst_16 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_v229 : Ref sig .tc := ⟨.hbm, 281, rfl⟩
abbrev main_v230 : Ref sig .tc := ⟨.hbm, 282, rfl⟩
abbrev main_v231 : Ref sig .tc := ⟨.hbm, 283, rfl⟩
abbrev main_v232 : Ref sig .tc := ⟨.hbm, 284, rfl⟩
abbrev main_v233 : Ref sig .tc := ⟨.hbm, 285, rfl⟩
abbrev main_v234 : Ref sig .tc := ⟨.hbm, 286, rfl⟩
abbrev main_v235 : Ref sig .tc := ⟨.hbm, 287, rfl⟩
abbrev main_v236 : Ref sig .tc := ⟨.hbm, 288, rfl⟩
abbrev main_v237 : Ref sig .tc := ⟨.hbm, 289, rfl⟩
abbrev main_v238 : Ref sig .tc := ⟨.hbm, 290, rfl⟩
abbrev main_v239 : Ref sig .tc := ⟨.hbm, 291, rfl⟩
abbrev main_v240 : Ref sig .tc := ⟨.hbm, 292, rfl⟩
abbrev main_v241 : Ref sig .tc := ⟨.hbm, 293, rfl⟩
abbrev main_v242 : Ref sig .tc := ⟨.hbm, 294, rfl⟩
abbrev main_v243 : Ref sig .tc := ⟨.hbm, 295, rfl⟩
abbrev main_v244 : Ref sig .tc := ⟨.hbm, 296, rfl⟩
abbrev main_v245 : Ref sig .tc := ⟨.hbm, 297, rfl⟩
abbrev main_v246 : Ref sig .tc := ⟨.hbm, 298, rfl⟩
abbrev main_v247 : Ref sig .tc := ⟨.hbm, 299, rfl⟩
abbrev main_v248 : Ref sig .tc := ⟨.hbm, 300, rfl⟩
abbrev main_v249 : Ref sig .tc := ⟨.hbm, 301, rfl⟩
abbrev main_v250 : Ref sig .tc := ⟨.hbm, 302, rfl⟩
abbrev main_v251 : Ref sig .tc := ⟨.hbm, 303, rfl⟩
abbrev main_v252 : Ref sig .tc := ⟨.hbm, 304, rfl⟩
abbrev main_v253 : Ref sig .tc := ⟨.hbm, 305, rfl⟩
abbrev main_cst_17 : Ref sig .tc := ⟨.hbm, 306, rfl⟩
abbrev main_v254 : Ref sig .tc := ⟨.hbm, 307, rfl⟩
abbrev main_v255 : Ref sig .tc := ⟨.hbm, 308, rfl⟩
abbrev main_cst_18 : Ref sig .tc := ⟨.hbm, 309, rfl⟩
abbrev main_v256 : Ref sig .tc := ⟨.hbm, 310, rfl⟩
abbrev main_v257 : Ref sig .tc := ⟨.hbm, 311, rfl⟩
abbrev main_v258 : Ref sig .tc := ⟨.hbm, 312, rfl⟩
abbrev main_v259 : Ref sig .tc := ⟨.hbm, 313, rfl⟩
abbrev main_v260 : Ref sig .tc := ⟨.hbm, 314, rfl⟩
abbrev main_v261 : Ref sig .tc := ⟨.hbm, 315, rfl⟩
abbrev main_v262 : Ref sig .tc := ⟨.hbm, 316, rfl⟩
abbrev main_v263 : Ref sig .tc := ⟨.hbm, 317, rfl⟩
abbrev main_v264 : Ref sig .tc := ⟨.hbm, 318, rfl⟩
abbrev main_v265 : Ref sig .tc := ⟨.hbm, 319, rfl⟩
abbrev main_v266 : Ref sig .tc := ⟨.hbm, 320, rfl⟩
abbrev main_v267 : Ref sig .tc := ⟨.hbm, 321, rfl⟩
abbrev main_v268 : Ref sig .tc := ⟨.hbm, 322, rfl⟩
abbrev main_v269 : Ref sig .tc := ⟨.hbm, 323, rfl⟩
abbrev main_v270 : Ref sig .tc := ⟨.hbm, 324, rfl⟩
abbrev main_v271 : Ref sig .tc := ⟨.hbm, 325, rfl⟩
abbrev main_v272 : Ref sig .tc := ⟨.hbm, 326, rfl⟩
abbrev main_v273 : Ref sig .tc := ⟨.hbm, 327, rfl⟩
abbrev main_v274 : Ref sig .tc := ⟨.hbm, 328, rfl⟩
abbrev main_v275 : Ref sig .tc := ⟨.hbm, 329, rfl⟩
abbrev main_v276 : Ref sig .tc := ⟨.hbm, 330, rfl⟩
abbrev main_v277 : Ref sig .tc := ⟨.hbm, 331, rfl⟩
abbrev main_v278 : Ref sig .tc := ⟨.hbm, 332, rfl⟩
abbrev main_v279 : Ref sig .tc := ⟨.hbm, 333, rfl⟩
abbrev main_cst_19 : Ref sig .tc := ⟨.hbm, 334, rfl⟩
abbrev main_v280 : Ref sig .tc := ⟨.hbm, 335, rfl⟩
abbrev main_v281 : Ref sig .tc := ⟨.hbm, 336, rfl⟩
abbrev main_cst_20 : Ref sig .tc := ⟨.hbm, 337, rfl⟩
abbrev main_v282 : Ref sig .tc := ⟨.hbm, 338, rfl⟩
abbrev main_v283 : Ref sig .tc := ⟨.hbm, 339, rfl⟩
abbrev main_v284 : Ref sig .tc := ⟨.hbm, 340, rfl⟩
abbrev main_v285 : Ref sig .tc := ⟨.hbm, 341, rfl⟩
abbrev main_v286 : Ref sig .tc := ⟨.hbm, 342, rfl⟩
abbrev main_v287 : Ref sig .tc := ⟨.hbm, 343, rfl⟩
abbrev main_v288 : Ref sig .tc := ⟨.hbm, 344, rfl⟩
abbrev main_v289 : Ref sig .tc := ⟨.hbm, 345, rfl⟩
abbrev main_v290 : Ref sig .tc := ⟨.hbm, 346, rfl⟩
abbrev main_v291 : Ref sig .tc := ⟨.hbm, 347, rfl⟩
abbrev main_v292 : Ref sig .tc := ⟨.hbm, 348, rfl⟩
abbrev main_v293 : Ref sig .tc := ⟨.hbm, 349, rfl⟩
abbrev main_v294 : Ref sig .tc := ⟨.hbm, 350, rfl⟩
abbrev main_v295 : Ref sig .tc := ⟨.hbm, 351, rfl⟩
abbrev main_v296 : Ref sig .tc := ⟨.hbm, 352, rfl⟩
abbrev main_v297 : Ref sig .tc := ⟨.hbm, 353, rfl⟩
abbrev main_v298 : Ref sig .tc := ⟨.hbm, 354, rfl⟩
abbrev main_v299 : Ref sig .tc := ⟨.hbm, 355, rfl⟩
abbrev main_v300 : Ref sig .tc := ⟨.hbm, 356, rfl⟩
abbrev main_v301 : Ref sig .tc := ⟨.hbm, 357, rfl⟩
abbrev main_cst_21 : Ref sig .tc := ⟨.hbm, 358, rfl⟩
abbrev main_v302 : Ref sig .tc := ⟨.hbm, 359, rfl⟩
abbrev main_v303 : Ref sig .tc := ⟨.hbm, 360, rfl⟩
abbrev main_cst_22 : Ref sig .tc := ⟨.hbm, 361, rfl⟩
abbrev main_v304 : Ref sig .tc := ⟨.hbm, 362, rfl⟩
abbrev main_v305 : Ref sig .tc := ⟨.hbm, 363, rfl⟩
abbrev main_v306 : Ref sig .tc := ⟨.hbm, 364, rfl⟩
abbrev main_v307 : Ref sig .tc := ⟨.hbm, 365, rfl⟩
abbrev main_v308 : Ref sig .tc := ⟨.hbm, 366, rfl⟩
abbrev main_v309 : Ref sig .tc := ⟨.hbm, 367, rfl⟩
abbrev main_v310 : Ref sig .tc := ⟨.hbm, 368, rfl⟩
abbrev main_v311 : Ref sig .tc := ⟨.hbm, 369, rfl⟩
abbrev main_v312 : Ref sig .tc := ⟨.hbm, 370, rfl⟩
abbrev main_v313 : Ref sig .tc := ⟨.hbm, 371, rfl⟩
abbrev main_v314 : Ref sig .tc := ⟨.hbm, 372, rfl⟩
abbrev main_v315 : Ref sig .tc := ⟨.hbm, 373, rfl⟩
abbrev main_v316 : Ref sig .tc := ⟨.hbm, 374, rfl⟩
abbrev main_v317 : Ref sig .tc := ⟨.hbm, 375, rfl⟩
abbrev main_v318 : Ref sig .tc := ⟨.hbm, 376, rfl⟩
abbrev main_v319 : Ref sig .tc := ⟨.hbm, 377, rfl⟩
abbrev main_v320 : Ref sig .tc := ⟨.hbm, 378, rfl⟩
abbrev main_v321 : Ref sig .tc := ⟨.hbm, 379, rfl⟩
abbrev main_v322 : Ref sig .tc := ⟨.hbm, 380, rfl⟩
abbrev main_v323 : Ref sig .tc := ⟨.hbm, 381, rfl⟩
abbrev main_v324 : Ref sig .tc := ⟨.hbm, 382, rfl⟩
abbrev main_v325 : Ref sig .tc := ⟨.hbm, 383, rfl⟩
abbrev main_v326 : Ref sig .tc := ⟨.hbm, 384, rfl⟩
abbrev main_v327 : Ref sig .tc := ⟨.hbm, 385, rfl⟩
abbrev main_v328 : Ref sig .tc := ⟨.hbm, 386, rfl⟩
abbrev main_v329 : Ref sig .tc := ⟨.hbm, 387, rfl⟩
abbrev main_v330 : Ref sig .tc := ⟨.hbm, 388, rfl⟩
abbrev main_v331 : Ref sig .tc := ⟨.hbm, 389, rfl⟩
abbrev main_v332 : Ref sig .tc := ⟨.hbm, 390, rfl⟩
abbrev main_v333 : Ref sig .tc := ⟨.hbm, 391, rfl⟩
abbrev main_v334 : Ref sig .tc := ⟨.hbm, 392, rfl⟩
abbrev main_v335 : Ref sig .tc := ⟨.hbm, 393, rfl⟩
abbrev main_v336 : Ref sig .tc := ⟨.hbm, 394, rfl⟩
abbrev main_v337 : Ref sig .tc := ⟨.hbm, 395, rfl⟩
abbrev main_v338 : Ref sig .tc := ⟨.hbm, 396, rfl⟩
abbrev main_v339 : Ref sig .tc := ⟨.hbm, 397, rfl⟩
abbrev main_cst_23 : Ref sig .tc := ⟨.hbm, 398, rfl⟩
abbrev main_v340 : Ref sig .tc := ⟨.hbm, 399, rfl⟩
abbrev main_v341 : Ref sig .tc := ⟨.hbm, 400, rfl⟩
abbrev main_cst_24 : Ref sig .tc := ⟨.hbm, 401, rfl⟩
abbrev main_v342 : Ref sig .tc := ⟨.hbm, 402, rfl⟩
abbrev main_v343 : Ref sig .tc := ⟨.hbm, 403, rfl⟩
abbrev main_v344 : Ref sig .tc := ⟨.hbm, 404, rfl⟩
abbrev main_v345 : Ref sig .tc := ⟨.hbm, 405, rfl⟩
abbrev main_v346 : Ref sig .tc := ⟨.hbm, 406, rfl⟩
abbrev main_v347 : Ref sig .tc := ⟨.hbm, 407, rfl⟩
abbrev main_v348 : Ref sig .tc := ⟨.hbm, 408, rfl⟩
abbrev main_v349 : Ref sig .tc := ⟨.hbm, 409, rfl⟩
abbrev main_v350 : Ref sig .tc := ⟨.hbm, 410, rfl⟩

abbrev nD : Nat := 1
abbrev τ : Topo := Topo.v7x

variable {F : FTy → Type} [FloatOps F]
-- ==== Proof.IdealBlocks.lean ====
module

public import proofs.«01_k».proof.Proof.Gen.KernelIdeal.Skeleton
public import Idealize.ShloMosaic.Lib.Pipeline.FrameBody

@[expose] public section

/-! The values that the body of the kernel `KernelIdeal` computes from its 26 input blocks, among them the three that it stores. -/

set_option maxRecDepth 16384

noncomputable section

namespace Cert.KernelIdeal.Body

open Cert.KernelIdeal Cert.KernelIdeal.Gen
open Idealize.ShloMosaic Idealize.ShloMosaic.TcCoe

variable {F : FTy → Type} [FloatOps F]

/-! ## The rectangles that the body reads and writes -/

abbrev rMat : Rect S128x128 := Rect.unit (s := S128x128) ![0, 0] S128x128.size inb_S128x128_S128x128_0_0
abbrev rVec : Rect S128 := Rect.unit (s := S128) ![0] S128.size inb_S128_S128_0
abbrev rStep0 : Rect S4x1000x128 := Rect.unit (s := S4x1000x128) ![0, 0, 0] S1x1000x128.size inb_S4x1000x128_S1x1000x128_0_0_0
abbrev rStep1 : Rect S4x1000x128 := Rect.unit (s := S4x1000x128) ![1, 0, 0] S1x1000x128.size inb_S4x1000x128_S1x1000x128_1_0_0
abbrev rStep2 : Rect S4x1000x128 := Rect.unit (s := S4x1000x128) ![2, 0, 0] S1x1000x128.size inb_S4x1000x128_S1x1000x128_2_0_0
abbrev rStep3 : Rect S4x1000x128 := Rect.unit (s := S4x1000x128) ![3, 0, 0] S1x1000x128.size inb_S4x1000x128_S1x1000x128_3_0_0
abbrev rBlk : Rect S1000x128 := Rect.unit (s := S1000x128) ![0, 0] S1000x128.size inb_S1000x128_S1000x128_0_0
abbrev rCol : Rect S128x1 := Rect.unit (s := S128x1) ![0, 0] S128x1.size inb_S128x1_S128x1_0_0
abbrev rOne : Rect S1 := Rect.unit (s := S1) ![0] S1.size inb_S1_S1_0
abbrev rOut : Rect S1000x1 := Rect.unit (s := S1000x1) ![0, 0] S1000x1.size inb_S1000x1_S1000x1_0_0

/-! ## The body's values over its input blocks -/

/-- The input windows' blocks at one grid point: four time steps of 1000 nodes, and the weights whole. -/
structure Blocks (F : FTy → Type) [FloatOps F] where
  x : Vec F S4x1000x128 .f32
  wxi : Vec F S128x128 .f32
  whi : Vec F S128x128 .f32
  wxf : Vec F S128x128 .f32
  whf : Vec F S128x128 .f32
  wxc : Vec F S128x128 .f32
  whc : Vec F S128x128 .f32
  wxo : Vec F S128x128 .f32
  who : Vec F S128x128 .f32
  bxi : Vec F S128 .f32
  bhi : Vec F S128 .f32
  bi : Vec F S128 .f32
  bxf : Vec F S128 .f32
  bhf : Vec F S128 .f32
  bf : Vec F S128 .f32
  bxc : Vec F S128 .f32
  bhc : Vec F S128 .f32
  bc : Vec F S128 .f32
  bxo : Vec F S128 .f32
  bho : Vec F S128 .f32
  bo : Vec F S128 .f32
  wci : Vec F S128 .f32
  wcf : Vec F S128 .f32
  wco : Vec F S128 .f32
  wout : Vec F S128x1 .f32
  bout : Vec F S1 .f32

variable (B : Blocks F)

/-- The four gates' input weights side by side, halved for the sigmoid gates. -/
def Blocks.wx : FVec F S128x512 .f32 :=
  k0_pay4 (View.ld B.wxi rMat) (View.ld B.wxf rMat) (View.ld B.wxc rMat) (View.ld B.wxo rMat)
/-- The input gate's halved bias. -/
def Blocks.biasI : FVec F S128 .f32 :=
  k0_pay6 (View.ld B.bxi rVec) (View.ld B.bhi rVec) (View.ld B.bi rVec)
/-- The forget gate's halved bias. -/
def Blocks.biasF : FVec F S128 .f32 :=
  k0_pay7 (View.ld B.bxf rVec) (View.ld B.bhf rVec) (View.ld B.bf rVec)
/-- The candidate's bias. -/
def Blocks.biasC : FVec F S128 .f32 :=
  k0_pay8 (View.ld B.bxc rVec) (View.ld B.bhc rVec) (View.ld B.bc rVec)
/-- The output gate's halved bias. -/
def Blocks.biasO : FVec F S128 .f32 :=
  k0_pay9 (View.ld B.bxo rVec) (View.ld B.bho rVec) (View.ld B.bo rVec)
/-- The input gate's halved peephole weights. -/
def Blocks.peepI : FVec F S128 .f32 :=
  k0_pay10 (View.ld B.wci rVec)
/-- The forget gate's halved peephole weights. -/
def Blocks.peepF : FVec F S128 .f32 :=
  k0_pay11 (View.ld B.wcf rVec)
/-- The output gate's halved peephole weights. -/
def Blocks.peepO : FVec F S128 .f32 :=
  k0_pay12 (View.ld B.wco rVec)
/-- The input weights over the hidden state's weights. -/
def Blocks.w2 : FVec F S256x512 .f32 :=
  k0_pay13 B.wx (k0_pay5 (View.ld B.whi rMat) (View.ld B.whf rMat) (View.ld B.whc rMat) (View.ld B.who rMat))
/-- The four gates' products at step 0. -/
def Blocks.g0 : FVec F S1000x512 .f32 :=
  k0_pay14 B.wx (View.ld B.x rStep0)
/-- The input gate at step 0. -/
def Blocks.i0 : FVec F S1000x128 .f32 :=
  k0_pay15 B.wx B.biasI (View.ld B.x rStep0)
/-- The cell after step 0. -/
def Blocks.c0 : FVec F S1000x128 .f32 :=
  k0_pay16 B.biasC B.g0 B.i0
/-- The four gates' products at step 1. -/
def Blocks.g1 : FVec F S1000x512 .f32 :=
  k0_pay17 B.biasC B.biasO B.peepO B.w2 B.g0 B.i0 (View.ld B.x rStep1)
/-- The input gate at step 1. -/
def Blocks.i1 : FVec F S1000x128 .f32 :=
  k0_pay18 B.biasI B.biasC B.biasO B.peepI B.peepO B.w2 B.g0 B.i0 (View.ld B.x rStep1)
/-- The forget gate at step 1, before its one half is added. -/
def Blocks.f1 : FVec F S1000x128 .f32 :=
  k0_pay19 B.biasF B.biasC B.biasO B.peepF B.peepO B.w2 B.g0 B.i0 (View.ld B.x rStep1)
/-- The cell after step 1. -/
def Blocks.c1 : FVec F S1000x128 .f32 :=
  k0_pay21 B.biasC B.c0 B.g1 B.i1 B.f1 k0_pay20
/-- The four gates' products at step 2. -/
def Blocks.g2 : FVec F S1000x512 .f32 :=
  k0_pay22 B.biasC B.biasO B.peepO B.w2 B.c0 B.g1 B.i1 B.f1 k0_pay20 (View.ld B.x rStep2)
/-- The input gate at step 2. -/
def Blocks.i2 : FVec F S1000x128 .f32 :=
  k0_pay23 B.biasI B.biasC B.biasO B.peepI B.peepO B.w2 B.c0 B.g1 B.i1 B.f1 k0_pay20 (View.ld B.x rStep2)
/-- The forget gate's hyperbolic tangent at step 2. -/
def Blocks.f2 : FVec F S1000x128 .f32 :=
  k0_pay24 B.biasF B.biasC B.biasO B.peepF B.peepO B.w2 B.c0 B.g1 B.i1 B.f1 k0_pay20 (View.ld B.x rStep2)
/-- The cell after step 2. -/
def Blocks.c2 : FVec F S1000x128 .f32 :=
  k0_pay26 B.biasC B.c1 B.g2 B.i2 B.f2 k0_pay25
/-- The four gates' products at step 3. -/
def Blocks.g3 : FVec F S1000x512 .f32 :=
  k0_pay27 B.biasC B.biasO B.peepO B.w2 B.c1 B.g2 B.i2 B.f2 k0_pay25 (View.ld B.x rStep3)
/-- The input gate at step 3. -/
def Blocks.i3 : FVec F S1000x128 .f32 :=
  k0_pay28 B.biasI B.biasC B.biasO B.peepI B.peepO B.w2 B.c1 B.g2 B.i2 B.f2 k0_pay25 (View.ld B.x rStep3)
/-- The forget gate's argument at step 3. -/
def Blocks.f3 : FVec F S1000x128 .f32 :=
  k0_pay29 B.biasF B.biasC B.biasO B.peepF B.peepO B.w2 B.c1 B.g2 B.i2 B.f2 k0_pay25 (View.ld B.x rStep3)
/-- The product with the output column, the output's bias added. -/
def Blocks.outVal : FVec F S1000x1 .f32 :=
  k0_pay3 B.biasC B.biasO B.peepO B.c2 B.g3 B.i3 B.f3 (View.ld B.wout rCol) (View.ld B.bout rOne)
/-- What is left in that output's buffer: one store that covers it. -/
def Blocks.outBuf : Vec F S1000x1 .f32 := View.canon [⟨rOut, B.outVal⟩]
/-- The hidden state after step 3. -/
def Blocks.hVal : FVec F S1000x128 .f32 :=
  k0_pay2 B.biasC B.biasO B.peepO B.c2 B.g3 B.i3 B.f3
/-- What is left in that output's buffer: one store that covers it. -/
def Blocks.hBuf : Vec F S1000x128 .f32 := View.canon [⟨rBlk, B.hVal⟩]
/-- The cell after step 3. -/
def Blocks.cVal : FVec F S1000x128 .f32 :=
  k0_pay1 B.biasC B.c2 B.g3 B.i3 B.f3
/-- What is left in that output's buffer: one store that covers it. -/
def Blocks.cBuf : Vec F S1000x128 .f32 := View.canon [⟨rBlk, B.cVal⟩]

end Cert.KernelIdeal.Body

end
-- ==== Proof.IdealBody.lean ====
module

public import proofs.«01_k».proof.Proof.Gen.KernelIdeal.Skeleton
public import proofs.«01_k».proof.Proof.IdealBlocks
public import proofs.«01_k».proof.Proof.Gen.KernelIdeal.Frame
public import Idealize.ShloMosaic.Lib.Ring
public import Idealize.ShloMosaic.Lib.Tactic
public import Idealize.ShloMosaic.Lib.WordCmp

@[expose] public section

/-! What one grid point of the kernel `KernelIdeal` does: it reads the 26 input blocks and leaves a block of the output, one of
    the hidden state and one of the cell in the three output buffers. -/

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- One store through the whole rectangle covers an output column's buffer. -/
theorem cover_out (p : Vec F S1000x1 .f32) (y : S1000x1.Idx) :
    ∃ pc ∈ ([⟨rOut, p⟩] : List (View.Piece (Elt F) S1000x1 .f32)), y ∈ pc.1.set :=
  View.cover_of_tiled [⟨rOut, p⟩] S1000x1.size (by rfl) y

/-- One store through the whole rectangle covers a state's buffer. -/
theorem cover_blk (p : Vec F S1000x128 .f32) (y : S1000x128.Idx) :
    ∃ pc ∈ ([⟨rBlk, p⟩] : List (View.Piece (Elt F) S1000x128 .f32)), y ∈ pc.1.set :=
  View.cover_of_tiled [⟨rBlk, p⟩] S1000x128.size (by rfl) y

/-! ## The body's triple -/

set_option maxHeartbeats 8000000 in
/-- The kernel body on whole buffers, the inputs' holding `x0` to `x25` and the outputs' anything, ends with the inputs'
    as they were and the outputs' at the three values above. -/
theorem triple (c : Dev nD) (E : Set ℕ) (i : grid0.Coords)
    (a0 : Memref sig .tc .vmem S4x1000x128 .f32) (w0 : a0.IsWhole)
    (a1 : Memref sig .tc .vmem S128x128 .f32) (w1 : a1.IsWhole)
    (a2 : Memref sig .tc .vmem S128x128 .f32) (w2 : a2.IsWhole)
    (a3 : Memref sig .tc .vmem S128x128 .f32) (w3 : a3.IsWhole)
    (a4 : Memref sig .tc .vmem S128x128 .f32) (w4 : a4.IsWhole)
    (a5 : Memref sig .tc .vmem S128x128 .f32) (w5 : a5.IsWhole)
    (a6 : Memref sig .tc .vmem S128x128 .f32) (w6 : a6.IsWhole)
    (a7 : Memref sig .tc .vmem S128x128 .f32) (w7 : a7.IsWhole)
    (a8 : Memref sig .tc .vmem S128x128 .f32) (w8 : a8.IsWhole)
    (a9 : Memref sig .tc .vmem S128 .f32) (w9 : a9.IsWhole)
    (a10 : Memref sig .tc .vmem S128 .f32) (w10 : a10.IsWhole)
    (a11 : Memref sig .tc .vmem S128 .f32) (w11 : a11.IsWhole)
    (a12 : Memref sig .tc .vmem S128 .f32) (w12 : a12.IsWhole)
    (a13 : Memref sig .tc .vmem S128 .f32) (w13 : a13.IsWhole)
    (a14 : Memref sig .tc .vmem S128 .f32) (w14 : a14.IsWhole)
    (a15 : Memref sig .tc .vmem S128 .f32) (w15 : a15.IsWhole)
    (a16 : Memref sig .tc .vmem S128 .f32) (w16 : a16.IsWhole)
    (a17 : Memref sig .tc .vmem S128 .f32) (w17 : a17.IsWhole)
    (a18 : Memref sig .tc .vmem S128 .f32) (w18 : a18.IsWhole)
    (a19 : Memref sig .tc .vmem S128 .f32) (w19 : a19.IsWhole)
    (a20 : Memref sig .tc .vmem S128 .f32) (w20 : a20.IsWhole)
    (a21 : Memref sig .tc .vmem S128 .f32) (w21 : a21.IsWhole)
    (a22 : Memref sig .tc .vmem S128 .f32) (w22 : a22.IsWhole)
    (a23 : Memref sig .tc .vmem S128 .f32) (w23 : a23.IsWhole)
    (a24 : Memref sig .tc .vmem S128x1 .f32) (w24 : a24.IsWhole)
    (a25 : Memref sig .tc .vmem S1 .f32) (w25 : a25.IsWhole)
    (a26 : Memref sig .tc .vmem S1000x1 .f32) (w26 : a26.IsWhole)
    (a27 : Memref sig .tc .vmem S1000x128 .f32) (w27 : a27.IsWhole)
    (a28 : Memref sig .tc .vmem S1000x128 .f32) (w28 : a28.IsWhole)
    (x0 : Vec F S4x1000x128 .f32)
    (x1 : Vec F S128x128 .f32)
    (x2 : Vec F S128x128 .f32)
    (x3 : Vec F S128x128 .f32)
    (x4 : Vec F S128x128 .f32)
    (x5 : Vec F S128x128 .f32)
    (x6 : Vec F S128x128 .f32)
    (x7 : Vec F S128x128 .f32)
    (x8 : Vec F S128x128 .f32)
    (x9 : Vec F S128 .f32)
    (x10 : Vec F S128 .f32)
    (x11 : Vec F S128 .f32)
    (x12 : Vec F S128 .f32)
    (x13 : Vec F S128 .f32)
    (x14 : Vec F S128 .f32)
    (x15 : Vec F S128 .f32)
    (x16 : Vec F S128 .f32)
    (x17 : Vec F S128 .f32)
    (x18 : Vec F S128 .f32)
    (x19 : Vec F S128 .f32)
    (x20 : Vec F S128 .f32)
    (x21 : Vec F S128 .f32)
    (x22 : Vec F S128 .f32)
    (x23 : Vec F S128 .f32)
    (x24 : Vec F S128x1 .f32)
    (x25 : Vec F S1 .f32)
    (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ owns (c : Thread nD τ) a17 fullShare x17 ∗ owns (c : Thread nD τ) a18 fullShare x18 ∗ owns (c : Thread nD τ) a19 fullShare x19 ∗ owns (c : Thread nD τ) a20 fullShare x20 ∗ owns (c : Thread nD τ) a21 fullShare x21 ∗ owns (c : Thread nD τ) a22 fullShare x22 ∗ owns (c : Thread nD τ) a23 fullShare x23 ∗ owns (c : Thread nD τ) a24 fullShare x24 ∗ owns (c : Thread nD τ) a25 fullShare x25 ∗ (∃ d, owns (c : Thread nD τ) a26 fullShare d) ∗ (∃ d, owns (c : Thread nD τ) a27 fullShare d) ∗ (∃ d, owns (c : Thread nD τ) a28 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ owns (c : Thread nD τ) a17 fullShare x17 ∗ owns (c : Thread nD τ) a18 fullShare x18 ∗ owns (c : Thread nD τ) a19 fullShare x19 ∗ owns (c : Thread nD τ) a20 fullShare x20 ∗ owns (c : Thread nD τ) a21 fullShare x21 ∗ owns (c : Thread nD τ) a22 fullShare x22 ∗ owns (c : Thread nD τ) a23 fullShare x23 ∗ owns (c : Thread nD τ) a24 fullShare x24 ∗ owns (c : Thread nD τ) a25 fullShare x25 ∗ owns (c : Thread nD τ) a26 fullShare (Blocks.outBuf (F := F) ⟨x0, x1, x2, x3, x4, x5, x6, x7, x8, x9, x10, x11, x12, x13, x14, x15, x16, x17, x18, x19, x20, x21, x22, x23, x24, x25⟩) ∗ owns (c : Thread nD τ) a27 fullShare (Blocks.hBuf (F := F) ⟨x0, x1, x2, x3, x4, x5, x6, x7, x8, x9, x10, x11, x12, x13, x14, x15, x16, x17, x18, x19, x20, x21, x22, x23, x24, x25⟩) ∗ owns (c : Thread nD τ) a28 fullShare (Blocks.cBuf (F := F) ⟨x0, x1, x2, x3, x4, x5, x6, x7, x8, x9, x10, x11, x12, x13, x14, x15, x16, x17, x18, x19, x20, x21, x22, x23, x24, x25⟩)) -∗ K ⟨⟩))
      ⊢ wp frame (wpE (defs₀ (F := F)) Variants.none c none) E
          (cc0__lstm_block_kernel i a0 w0 a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 a27 w27 a28 w28) K := by
  simp only [cc0__lstm_block_kernel_eq_skeleton]; unfold cc0__lstm_block_kernel_skel
  simp only [k0_part1_eq_skeleton, k0_part2_eq_skeleton, k0_part3_eq_skeleton, k0_part4_eq_skeleton, k0_part5_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩, ⟨%f24, %e24, H24⟩, ⟨%f25, %e25, H25⟩, ⟨%d26, %f26, %e26, H26⟩, ⟨%d27, %f27, %e27, H27⟩, ⟨%d28, %f28, %e28, H28⟩, Hk⟩
  subst e0 e1 e2 e3 e4 e5 e6 e7 e8 e9 e10 e11 e12 e13 e14 e15 e16 e17 e18 e19 e20 e21 e22 e23 e24 e25
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists _; isplitr
    swap; · iexact H26
    ipureintro
    refine (View.read_writes_eq_canon _ _ _ (cover_out _)).trans ?_
    sl_unfold_words
    simp only [View.readAt_eq_ld]
    simp only [Blocks.wx, Blocks.biasI, Blocks.biasF, Blocks.biasC, Blocks.biasO, Blocks.peepI, Blocks.peepF, Blocks.peepO, Blocks.w2, Blocks.g0, Blocks.i0, Blocks.c0, Blocks.g1, Blocks.i1, Blocks.f1, Blocks.c1, Blocks.g2, Blocks.i2, Blocks.f2, Blocks.c2, Blocks.g3, Blocks.i3, Blocks.f3, Blocks.outVal, Blocks.outBuf]
  isplitl [H27]
  · iexists _; isplitr
    swap; · iexact H27
    ipureintro
    refine (View.read_writes_eq_canon _ _ _ (cover_blk _)).trans ?_
    sl_unfold_words
    simp only [View.readAt_eq_ld]
    simp only [Blocks.wx, Blocks.biasI, Blocks.biasF, Blocks.biasC, Blocks.biasO, Blocks.peepI, Blocks.peepF, Blocks.peepO, Blocks.w2, Blocks.g0, Blocks.i0, Blocks.c0, Blocks.g1, Blocks.i1, Blocks.f1, Blocks.c1, Blocks.g2, Blocks.i2, Blocks.f2, Blocks.c2, Blocks.g3, Blocks.i3, Blocks.f3, Blocks.hVal, Blocks.hBuf]
  iexists _; isplitr
  swap; · iexact H28
  ipureintro
  refine (View.read_writes_eq_canon _ _ _ (cover_blk _)).trans ?_
  sl_unfold_words
  simp only [View.readAt_eq_ld]
  simp only [Blocks.wx, Blocks.biasI, Blocks.biasF, Blocks.biasC, Blocks.biasO, Blocks.peepI, Blocks.peepF, Blocks.peepO, Blocks.w2, Blocks.g0, Blocks.i0, Blocks.c0, Blocks.g1, Blocks.i1, Blocks.f1, Blocks.c1, Blocks.g2, Blocks.i2, Blocks.f2, Blocks.c2, Blocks.g3, Blocks.i3, Blocks.f3, Blocks.cVal, Blocks.cBuf]

end Cert.KernelIdeal.Body

end
-- ==== Proof.IdealData.lean ====
module

public import proofs.«01_k».proof.Proof.IdealBlocks
public import proofs.«01_k».proof.Proof.Gen.KernelIdeal.Frame

@[expose] public section

/-! What the pipeline of `KernelIdeal` holds at each grid point: the input blocks, and what the body leaves in each output. -/

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input blocks of grid point `t`, cut from the arrays as the region finds them. -/
def blocksAt (c : Dev nD) (t : Fin cfg0.N) : Blocks F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t, iblk m c 21 t, iblk m c 22 t, iblk m c 23 t, iblk m c 24 t, iblk m c 25 t⟩

/-- The pipeline's proof data on core `c`: after the body an input's buffer holds its block and an output's the body's
    value; nothing is owed, and the rest of the memory is untouched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => (blocksAt m c t).outBuf
    | ⟨27, _⟩ => (blocksAt m c t).hBuf
    | ⟨28, _⟩ => (blocksAt m c t).cBuf
    | ⟨_ + 29, h⟩ => absurd h (Nat.not_lt.2 (Nat.le_add_left _ _))
  Φ _ := Pipeline.ΦA spec0 c
  q _ := fullShare
  owed _ := 0

/-- The proof data's arrays are those that the region finds. -/
theorem A_eq (c : Dev nD) (w : Fin cfg0.W) : (dats m 0 c).A w = V m c (Pipeline.arrRef spec0 w) := by
  dsimp only [dats]

/-! What the body leaves in each window's buffer, and what it finds in each input's. -/

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = iblk m c 21 t := by dsimp only [dats]
theorem after_22 (c : Dev nD) (t : Fin cfg0.N) : (dats m 0 c).after 22 t = iblk m c 22 t := by dsimp only [dats]
theorem after_23 (c : Dev nD) (t : Fin cfg0.N) : (dats m 0 c).after 23 t = iblk m c 23 t := by dsimp only [dats]
theorem after_24 (c : Dev nD) (t : Fin cfg0.N) : (dats m 0 c).after 24 t = iblk m c 24 t := by dsimp only [dats]
theorem after_25 (c : Dev nD) (t : Fin cfg0.N) : (dats m 0 c).after 25 t = iblk m c 25 t := by dsimp only [dats]
theorem after_26 (c : Dev nD) (t : Fin cfg0.N) : (dats m 0 c).after 26 t = (blocksAt m c t).outBuf := by dsimp only [dats]
theorem after_27 (c : Dev nD) (t : Fin cfg0.N) : (dats m 0 c).after 27 t = (blocksAt m c t).hBuf := by dsimp only [dats]
theorem after_28 (c : Dev nD) (t : Fin cfg0.N) : (dats m 0 c).after 28 t = (blocksAt m c t).cBuf := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d
theorem before_18 (c : Dev nD) (t : Fin cfg0.N) (d) : (dats m 0 c).before 18 t d = iblk m c 18 t :=
  before0_18_of m (dats m 0 c) (A_eq m c 18) (after_18 m c) t d
theorem before_19 (c : Dev nD) (t : Fin cfg0.N) (d) : (dats m 0 c).before 19 t d = iblk m c 19 t :=
  before0_19_of m (dats m 0 c) (A_eq m c 19) (after_19 m c) t d
theorem before_20 (c : Dev nD) (t : Fin cfg0.N) (d) : (dats m 0 c).before 20 t d = iblk m c 20 t :=
  before0_20_of m (dats m 0 c) (A_eq m c 20) (after_20 m c) t d
theorem before_21 (c : Dev nD) (t : Fin cfg0.N) (d) : (dats m 0 c).before 21 t d = iblk m c 21 t :=
  before0_21_of m (dats m 0 c) (A_eq m c 21) (after_21 m c) t d
theorem before_22 (c : Dev nD) (t : Fin cfg0.N) (d) : (dats m 0 c).before 22 t d = iblk m c 22 t :=
  before0_22_of m (dats m 0 c) (A_eq m c 22) (after_22 m c) t d
theorem before_23 (c : Dev nD) (t : Fin cfg0.N) (d) : (dats m 0 c).before 23 t d = iblk m c 23 t :=
  before0_23_of m (dats m 0 c) (A_eq m c 23) (after_23 m c) t d
theorem before_24 (c : Dev nD) (t : Fin cfg0.N) (d) : (dats m 0 c).before 24 t d = iblk m c 24 t :=
  before0_24_of m (dats m 0 c) (A_eq m c 24) (after_24 m c) t d
theorem before_25 (c : Dev nD) (t : Fin cfg0.N) (d) : (dats m 0 c).before 25 t d = iblk m c 25 t :=
  before0_25_of m (dats m 0 c) (A_eq m c 25) (after_25 m c) t d

end Cert.KernelIdeal.Body

end
-- ==== Proof.IdealFrame.lean ====
module

public import proofs.«01_k».proof.Proof.IdealBody
public import proofs.«01_k».proof.Proof.IdealData
public import Idealize.ShloMosaic.Lib.Claim

@[expose] public section

/-! The launch of `KernelIdeal`: the body's triple at every grid point, the run of @main, and the frame. -/

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d)))

/-- What it returns. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t))

set_option maxHeartbeats 4000000 in
/-- The body at any point: the inputs' buffers hold their blocks, so the triple applies. -/
theorem sound (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8, before_9, before_10, before_11, before_12, before_13, before_14, before_15, before_16, before_17, before_18, before_19, before_20, before_21, before_22, before_23, before_24, before_25]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, after_26, after_27, after_28]
  unfold blocksAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply (triple c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexists _; iexact H26
  isplitl [H27]; · iexists _; iexact H27
  isplitl [H28]; · iexists _; iexact H28
  iintro ⟨H0, H1, H2, H3, H4, H5, H6, H7, H8, H9, H10, H11, H12, H13, H14, H15, H16, H17, H18, H19, H20, H21, H22, H23, H24, H25, H26, H27, H28⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

/-- The body that the pipeline calls at point `t` is `bodyAt0 t`. -/
theorem body_row (t : Fin cfg0.N) :
    defs₀ (F := F) .tc cfg0.body (cfg0.bodyArgs t (cfg0.slots t)) = bodyAt0 t := by
  unfold defs₀; rw [Defs.onTc_tc]

set_option maxHeartbeats 4000000 in
/-- The pipeline's obligation on the body, at every point. -/
theorem obligation (c : Dev nD) : BodyObligation (dats (F := F) m 0 c) (defs₀ (F := F)) Variants.none () Set.univ := fun t => by
  rw [bigSep_W0, bigSep_W0, body_row]
  exact triple_restated (sound m c t) rfl .rfl fun _ => .rfl

set_option backward.isDefEq.respectTransparency.types false in
set_option maxHeartbeats 1600000 in
/-- Every weakly fair execution of @main terminates, with the pipeline's arrays as the proof data say, every other buffer as
    the lines after the region leave it, and every semaphore counter at zero. -/
theorem run_zero : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same run without the counters. -/
theorem run : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_zero m ρ)

/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33))
      ∧ r.2.sem = fun _ => 0) :=
  θ_run_and (frame_of m ρ (dats m) (A_eq m) (run m ρ)) ((θ_run defs _ _).mono (fun _ h => h.2) (run_zero m ρ))

end Cert.KernelIdeal.Body

end
-- ==== Proof.Cell.lean ====
module

public import Idealize.ShloMosaic.Lib.Pointwise

@[expose] public section

/-! One node's LSTM cell over the extended reals, in the reference's form and in the kernel's.

The reference's gate is `logistic` of a sum of products, biases and a peephole term. The kernel scales the sigmoid gates'
weights, biases and peephole weights by one half beforehand and writes the gate `tanh · /2 + 1/2`; it takes the two products of
a gate as one over the input row followed by the hidden row; and at the first step, whose states are zero, it leaves the
hidden state's product, the peephole terms and the forget gate out. All of this holds at the infinities too. -/

noncomputable section

namespace Cell

open Idealize.ShloMosaic

/-- The scalar one half. -/
def half : EReal := ((1 / 2 : ℝ) : EReal)

theorem half_nonneg : 0 ≤ half := by
  unfold half; exact_mod_cast (by norm_num : (0 : ℝ) ≤ 1 / 2)

theorem half_ne_top : half ≠ ⊤ := EReal.coe_ne_top _

/-- One half distributes over every sum of two. -/
theorem half_add (a b : EReal) : half * (a + b) = half * a + half * b :=
  EReal.left_distrib_of_nonneg_of_ne_top half_nonneg half_ne_top a b

/-- One half comes out of a sum of products whose right factors are halved. -/
theorem half_dot {ι : Type} (s : Finset ι) (f g : ι → EReal) :
    ∑ k ∈ s, f k * (half * g k) = half * ∑ k ∈ s, f k * g k := by
  classical
  induction s using Finset.induction_on with
  | empty => simp
  | insert a s ha ih => rw [Finset.sum_insert ha, Finset.sum_insert ha, ih, half_add, mul_left_comm]

/-- The sigmoid through the hyperbolic tangent of half the argument. -/
theorem logistic_eq (z : EReal) : half * Ideal.tanh (half * z) + half = Ideal.logistic z := by
  have hp : (0 : ℝ) < 1 / 2 := by norm_num
  induction z with
  | bot =>
    have h1 : half * ⊥ = ⊥ := EReal.coe_mul_bot_of_pos hp
    rw [h1, Ideal.logistic_bot]
    show half * (-1) + half = 0
    rw [mul_neg, mul_one]; unfold half; rw [← EReal.coe_neg, ← EReal.coe_add]; norm_num
  | top =>
    have h1 : half * ⊤ = ⊤ := EReal.coe_mul_top_of_pos hp
    rw [h1, Ideal.logistic_top]
    show half * 1 + half = 1
    rw [mul_one]; unfold half; rw [← EReal.coe_add]; norm_num
  | coe r =>
    rw [Ideal.logistic_coe]
    unfold half
    rw [← EReal.coe_mul]
    show ((1 / 2 : ℝ) : EReal) * ((Real.tanh (1 / 2 * r) : ℝ) : EReal) + ((1 / 2 : ℝ) : EReal) = _
    rw [← EReal.coe_mul, ← EReal.coe_add]
    congr 1
    have e1 : Real.exp (-r) = Real.exp (-(1 / 2 * r)) * Real.exp (-(1 / 2 * r)) := by rw [← Real.exp_add]; congr 1; ring
    have e2 : Real.exp (1 / 2 * r) * Real.exp (-(1 / 2 * r)) = 1 := by rw [← Real.exp_add]; simp
    have p1 := Real.exp_pos (1 / 2 * r)
    have p2 := Real.exp_pos (-(1 / 2 * r))
    rw [Real.tanh_eq_sinh_div_cosh, Real.sinh_eq, Real.cosh_eq, e1]
    generalize Real.exp (1 / 2 * r) = a at *
    generalize Real.exp (-(1 / 2 * r)) = b at *
    have h3 : 1 + b * b ≠ 0 := by positivity
    have h4 : (a + b) / 2 ≠ 0 := by positivity
    field_simp
    nlinarith [e2]

/-- A row of 128 extended reals. -/
abbrev Row : Type := Fin 128 → EReal

/-- A row times a 128×128 matrix, at column `j`. -/
def dot (x : Row) (w : Fin 128 → Row) (j : Fin 128) : EReal := ∑ k : Fin 128, x k * w k j

/-- One gate's parameters: the input's and the hidden state's weights, the two linear maps' biases and the gate's own. -/
structure Gate where
  wx : Fin 128 → Row
  wh : Fin 128 → Row
  bx : Row
  bh : Row
  b : Row

/-- The cell's parameters: four gates, three peephole rows. -/
structure Params where
  gi : Gate
  gf : Gate
  gc : Gate
  go : Gate
  pi : Row
  pf : Row
  po : Row

variable (P : Params)

/-- A gate's linear part, in the reference's order. -/
def Gate.lin (G : Gate) (x h : Row) (j : Fin 128) : EReal := dot x G.wx j + G.bx j + dot h G.wh j + G.bh j

/-- A sigmoid gate with its peephole. -/
def Gate.sig (G : Gate) (p : Row) (x h c : Row) (j : Fin 128) : EReal := Ideal.logistic (G.lin x h j + p j * c j + G.b j)

/-- The candidate. -/
def Gate.cand (G : Gate) (x h : Row) (j : Fin 128) : EReal := Ideal.tanh (G.lin x h j + G.b j)

/-- The reference's next cell state. -/
def Params.nextC (x h c : Row) : Row := fun j =>
  P.gf.sig P.pf x h c j * c j + P.gi.sig P.pi x h c j * P.gc.cand x h j

/-- The reference's next hidden state, `c'` being the next cell state. -/
def Params.nextH (x h c' : Row) : Row := fun j => P.go.sig P.po x h c' j * Ideal.tanh (c' j)

/-- The states after the steps `0 … n`, of the rows `x 0 … x n`; the states before are zero. -/
def Params.states (x : ℕ → Row) : ℕ → Row × Row
  | 0 => let c := P.nextC (x 0) (fun _ => 0) (fun _ => 0); (P.nextH (x 0) (fun _ => 0) c, c)
  | n + 1 => let s := Params.states x n; let c := P.nextC (x (n + 1)) s.1 s.2; (P.nextH (x (n + 1)) s.1 c, c)

/-- The parameters that 23 arrays hold. -/
def ofArrays (wxi whi wxf whf wxc whc wxo who : (⟨2, ![128, 128]⟩ : Shape).Idx → EReal)
    (bxi bhi bi bxf bhf bf bxc bhc bc bxo bho bo wci wcf wco : (⟨1, ![128]⟩ : Shape).Idx → EReal) : Params where
  gi := ⟨fun k j => wxi (ix2 k j), fun k j => whi (ix2 k j), fun j => bxi (ix1 j), fun j => bhi (ix1 j), fun j => bi (ix1 j)⟩
  gf := ⟨fun k j => wxf (ix2 k j), fun k j => whf (ix2 k j), fun j => bxf (ix1 j), fun j => bhf (ix1 j), fun j => bf (ix1 j)⟩
  gc := ⟨fun k j => wxc (ix2 k j), fun k j => whc (ix2 k j), fun j => bxc (ix1 j), fun j => bhc (ix1 j), fun j => bc (ix1 j)⟩
  go := ⟨fun k j => wxo (ix2 k j), fun k j => who (ix2 k j), fun j => bxo (ix1 j), fun j => bho (ix1 j), fun j => bo (ix1 j)⟩
  pi := fun j => wci (ix1 j)
  pf := fun j => wcf (ix1 j)
  po := fun j => wco (ix1 j)

/-! ## The kernel's form of the gates -/

/-- The halved bias of a sigmoid gate, in the kernel's order. -/
def Gate.hbias (G : Gate) (j : Fin 128) : EReal := half * (G.bx j + G.bh j + G.b j)

/-- A sigmoid gate as the kernel writes it. -/
theorem sig_eq (G : Gate) (p x h c : Row) (j : Fin 128) :
    half * Ideal.tanh ((∑ k : Fin 128, x k * (half * G.wx k j)) + (∑ k : Fin 128, h k * (half * G.wh k j))
      + (G.hbias j + half * p j * c j)) + half = G.sig p x h c j := by
  unfold Gate.sig Gate.hbias Gate.lin dot
  rw [← logistic_eq, half_dot, half_dot, mul_assoc, ← half_add, ← half_add, ← half_add]
  congr 4
  ac_rfl

/-- The candidate as the kernel writes it. -/
theorem cand_eq (G : Gate) (x h : Row) (j : Fin 128) :
    Ideal.tanh ((∑ k : Fin 128, x k * G.wx k j) + (∑ k : Fin 128, h k * G.wh k j) + (G.bx j + G.bh j + G.b j)) = G.cand x h j := by
  unfold Gate.cand Gate.lin dot
  congr 1
  ac_rfl

/-- A product with the zero row. -/
theorem dot_zero (w : Fin 128 → Row) (j : Fin 128) : dot (fun _ => 0) w j = 0 := by simp [dot]

/-- A sigmoid gate at a zero hidden state, as the kernel writes it. -/
theorem sig_eq_first (G : Gate) (p x c : Row) (j : Fin 128) :
    half * Ideal.tanh ((∑ k : Fin 128, x k * (half * G.wx k j)) + (G.hbias j + half * p j * c j)) + half
      = G.sig p x (fun _ => 0) c j := by
  rw [← sig_eq]; simp

/-- A sigmoid gate at zero states, as the kernel writes it. -/
theorem sig_eq_zero (G : Gate) (p x : Row) (j : Fin 128) :
    half * Ideal.tanh ((∑ k : Fin 128, x k * (half * G.wx k j)) + G.hbias j) + half
      = G.sig p x (fun _ => 0) (fun _ => 0) j := by
  rw [← sig_eq]; simp

/-- The candidate at a zero hidden state, as the kernel writes it. -/
theorem cand_eq_zero (G : Gate) (x : Row) (j : Fin 128) :
    Ideal.tanh ((∑ k : Fin 128, x k * G.wx k j) + (G.bx j + G.bh j + G.b j)) = G.cand x (fun _ => 0) j := by
  rw [← cand_eq]; simp

/-- The first cell state: the forget gate's term is a product with zero. -/
theorem nextC_zero (x : Row) (j : Fin 128) :
    P.nextC x (fun _ => 0) (fun _ => 0) j = P.gi.sig P.pi x (fun _ => 0) (fun _ => 0) j * P.gc.cand x (fun _ => 0) j := by
  unfold Params.nextC; rw [mul_zero, zero_add]

end Cell

end
-- ==== Proof.IdealValue.lean ====
module

public import proofs.«01_k».proof.Proof.IdealBlocks
public import proofs.«01_k».proof.Proof.Cell
public import Idealize.ShloMosaic.Lib.Pointwise

@[expose] public section

/-! The body's values over the extended reals, element by element: the row `r` of each of its states is the cell's state of
    that row (`Cell.Params.states`), and its output is the last hidden state's product with the output column plus the
    output's bias. -/

set_option maxRecDepth 16384

noncomputable section

namespace Cert.KernelIdeal.Body

open Cert.KernelIdeal Cert.KernelIdeal.Gen Cell
open Idealize.ShloMosaic

/-- The scalar that the body multiplies and adds is one half. -/
theorem ofBits_half : Ideal.ofBits .f32 0x3F000000#32 = half := by
  unfold half
  simp [Ideal.ofBits, Ideal.ieee, -EReal.coe_mul]; norm_num

variable (B : Blocks Ideal)

/-- The cell's parameters that the input blocks hold. -/
def Blocks.params : Params :=
  ofArrays B.wxi B.whi B.wxf B.whf B.wxc B.whc B.wxo B.who B.bxi B.bhi B.bi B.bxf B.bhf B.bf B.bxc B.bhc B.bc B.bxo B.bho B.bo
    B.wci B.wcf B.wco

/-- Row `r` of the block's time step `t`. -/
def Blocks.row (r : Fin 1000) (t : ℕ) : Row := fun k => B.x (ix3 (Fin.ofNat 4 t) r k)

/-- Row `r`'s states after step `t`. -/
def Blocks.st (r : Fin 1000) (t : ℕ) : Row × Row := B.params.states (B.row r) t

/-! ## The parameters that the body prepares -/

/-- A load of a whole matrix, column or vector is the buffer's contents. -/
theorem ld_mat (X : Vec Ideal S128x128 .f32) : View.ld X rMat = X :=
  View.ld_unit_zero (by funext a; fin_cases a <;> rfl) _ X
theorem ld_vec (X : Vec Ideal S128 .f32) : View.ld X rVec = X :=
  View.ld_unit_zero (by funext a; fin_cases a; rfl) _ X
theorem ld_col (X : Vec Ideal S128x1 .f32) : View.ld X rCol = X :=
  View.ld_unit_zero (by funext a; fin_cases a <;> rfl) _ X
theorem ld_one (X : Vec Ideal S1 .f32) : View.ld X rOne = X :=
  View.ld_unit_zero (by funext a; fin_cases a; rfl) _ X

theorem biasI_apply (j : Fin 128) : B.biasI (ix1 j) = B.params.gi.hbias j := by
  unfold Blocks.biasI; rw [ld_vec, ld_vec, ld_vec]; pointwise [k0_pay6, ofBits_half]; rfl

theorem biasF_apply (j : Fin 128) : B.biasF (ix1 j) = B.params.gf.hbias j := by
  unfold Blocks.biasF; rw [ld_vec, ld_vec, ld_vec]; pointwise [k0_pay7, ofBits_half]; rfl

theorem biasO_apply (j : Fin 128) : B.biasO (ix1 j) = B.params.go.hbias j := by
  unfold Blocks.biasO; rw [ld_vec, ld_vec, ld_vec]; pointwise [k0_pay9, ofBits_half]; rfl

theorem biasC_apply (j : Fin 128) : B.biasC (ix1 j) = B.params.gc.bx j + B.params.gc.bh j + B.params.gc.b j := by
  unfold Blocks.biasC; rw [ld_vec, ld_vec, ld_vec]; pointwise [k0_pay8]; rfl

theorem peepI_apply (j : Fin 128) : B.peepI (ix1 j) = half * B.params.pi j := by
  unfold Blocks.peepI; rw [ld_vec]; pointwise [k0_pay10, ofBits_half]; rfl

theorem peepF_apply (j : Fin 128) : B.peepF (ix1 j) = half * B.params.pf j := by
  unfold Blocks.peepF; rw [ld_vec]; pointwise [k0_pay11, ofBits_half]; rfl

theorem peepO_apply (j : Fin 128) : B.peepO (ix1 j) = half * B.params.po j := by
  unfold Blocks.peepO; rw [ld_vec]; pointwise [k0_pay12, ofBits_half]; rfl

/-- Four matrices side by side, the first, second and fourth halved: the columns of each. -/
theorem cat_apply (a b c d : Vec Ideal S128x128 .f32) (k j : Fin 128) :
    (k0_pay4 (F := Ideal) a b c d (ix2 k ⟨j, by omega⟩) = half * a (ix2 k j)
      ∧ k0_pay4 (F := Ideal) a b c d (ix2 k ⟨128 + j, by omega⟩) = half * b (ix2 k j))
    ∧ (k0_pay4 (F := Ideal) a b c d (ix2 k ⟨256 + j, by omega⟩) = c (ix2 k j)
      ∧ k0_pay4 (F := Ideal) a b c d (ix2 k ⟨384 + j, by omega⟩) = half * d (ix2 k j)) := by
  have hj := j.isLt
  refine ⟨⟨?_, ?_⟩, ?_, ?_⟩
  · pointwise [k0_pay4, ofBits_half]
  · pointwise [k0_pay4, ofBits_half]
  · pointwise [k0_pay4]
    rw [dif_neg (by omega), dif_neg (by omega), dif_pos (by omega)]
    exact congrArg (fun n => c (ix2 k n)) (Fin.ext (by show 256 + j.val - 128 - 128 = j.val; omega))
  · pointwise [k0_pay4, ofBits_half]
    rw [dif_neg (by omega), dif_neg (by omega), dif_neg (by omega)]
    exact congrArg (fun n => half * d (ix2 k n)) (Fin.ext (by show 384 + j.val - 128 - 128 - 128 = j.val; omega))

/-- The hidden state's weights are prepared as the input's are. -/
theorem cat_eq (a b c d : Vec Ideal S128x128 .f32) : k0_pay5 (F := Ideal) a b c d = k0_pay4 a b c d := rfl

/-- The stacked weights' upper half. -/
theorem stack_upper (a b : Vec Ideal S128x512 .f32) (k : Fin 128) (n : Fin 512) :
    k0_pay13 (F := Ideal) a b (ix2 ⟨k, by omega⟩ n) = a (ix2 k n) := by
  have hk := k.isLt
  pointwise [k0_pay13]

/-- The stacked weights' lower half. -/
theorem stack_lower (a b : Vec Ideal S128x512 .f32) (k : Fin 128) (n : Fin 512) :
    k0_pay13 (F := Ideal) a b (ix2 ⟨128 + k, by omega⟩ n) = b (ix2 k n) := by
  have hk := k.isLt
  pointwise [k0_pay13]

theorem wxI_apply (k j : Fin 128) : B.wx (ix2 k ⟨j, by omega⟩) = half * B.params.gi.wx k j := by
  unfold Blocks.wx; rw [ld_mat, ld_mat, ld_mat, ld_mat]; exact (cat_apply _ _ _ _ k j).1.1
theorem w2xI_apply (k j : Fin 128) : B.w2 (ix2 ⟨k, by omega⟩ ⟨j, by omega⟩) = half * B.params.gi.wx k j := by
  unfold Blocks.w2; rw [stack_upper]; exact wxI_apply B k j
theorem w2hI_apply (k j : Fin 128) : B.w2 (ix2 ⟨128 + k, by omega⟩ ⟨j, by omega⟩) = half * B.params.gi.wh k j := by
  unfold Blocks.w2; rw [stack_lower, cat_eq, ld_mat, ld_mat, ld_mat, ld_mat]; exact (cat_apply _ _ _ _ k j).1.1

theorem wxF_apply (k j : Fin 128) : B.wx (ix2 k ⟨128 + j, by omega⟩) = half * B.params.gf.wx k j := by
  unfold Blocks.wx; rw [ld_mat, ld_mat, ld_mat, ld_mat]; exact (cat_apply _ _ _ _ k j).1.2
theorem w2xF_apply (k j : Fin 128) : B.w2 (ix2 ⟨k, by omega⟩ ⟨128 + j, by omega⟩) = half * B.params.gf.wx k j := by
  unfold Blocks.w2; rw [stack_upper]; exact wxF_apply B k j
theorem w2hF_apply (k j : Fin 128) : B.w2 (ix2 ⟨128 + k, by omega⟩ ⟨128 + j, by omega⟩) = half * B.params.gf.wh k j := by
  unfold Blocks.w2; rw [stack_lower, cat_eq, ld_mat, ld_mat, ld_mat, ld_mat]; exact (cat_apply _ _ _ _ k j).1.2

theorem wxC_apply (k j : Fin 128) : B.wx (ix2 k ⟨256 + j, by omega⟩) = B.params.gc.wx k j := by
  unfold Blocks.wx; rw [ld_mat, ld_mat, ld_mat, ld_mat]; exact (cat_apply _ _ _ _ k j).2.1
theorem w2xC_apply (k j : Fin 128) : B.w2 (ix2 ⟨k, by omega⟩ ⟨256 + j, by omega⟩) = B.params.gc.wx k j := by
  unfold Blocks.w2; rw [stack_upper]; exact wxC_apply B k j
theorem w2hC_apply (k j : Fin 128) : B.w2 (ix2 ⟨128 + k, by omega⟩ ⟨256 + j, by omega⟩) = B.params.gc.wh k j := by
  unfold Blocks.w2; rw [stack_lower, cat_eq, ld_mat, ld_mat, ld_mat, ld_mat]; exact (cat_apply _ _ _ _ k j).2.1

theorem wxO_apply (k j : Fin 128) : B.wx (ix2 k ⟨384 + j, by omega⟩) = half * B.params.go.wx k j := by
  unfold Blocks.wx; rw [ld_mat, ld_mat, ld_mat, ld_mat]; exact (cat_apply _ _ _ _ k j).2.2
theorem w2xO_apply (k j : Fin 128) : B.w2 (ix2 ⟨k, by omega⟩ ⟨384 + j, by omega⟩) = half * B.params.go.wx k j := by
  unfold Blocks.w2; rw [stack_upper]; exact wxO_apply B k j
theorem w2hO_apply (k j : Fin 128) : B.w2 (ix2 ⟨128 + k, by omega⟩ ⟨384 + j, by omega⟩) = half * B.params.go.wh k j := by
  unfold Blocks.w2; rw [stack_lower, cat_eq, ld_mat, ld_mat, ld_mat, ld_mat]; exact (cat_apply _ _ _ _ k j).2.2

/-! ## Step 0, whose states before are zero -/

theorem g0I_apply (r : Fin 1000) (j : Fin 128) :
    B.g0 (ix2 r ⟨j, by omega⟩) = ∑ k : Fin 128, B.row r 0 k * (half * B.params.gi.wx k j) := by
  unfold Blocks.g0; pointwise [k0_pay14]
  refine Finset.sum_congr rfl fun k _ => ?_
  rw [wxI_apply]; rfl

theorem g0F_apply (r : Fin 1000) (j : Fin 128) :
    B.g0 (ix2 r ⟨128 + j, by omega⟩) = ∑ k : Fin 128, B.row r 0 k * (half * B.params.gf.wx k j) := by
  unfold Blocks.g0; pointwise [k0_pay14]
  refine Finset.sum_congr rfl fun k _ => ?_
  rw [wxF_apply]; rfl

theorem g0C_apply (r : Fin 1000) (j : Fin 128) :
    B.g0 (ix2 r ⟨256 + j, by omega⟩) = ∑ k : Fin 128, B.row r 0 k * (B.params.gc.wx k j) := by
  unfold Blocks.g0; pointwise [k0_pay14]
  refine Finset.sum_congr rfl fun k _ => ?_
  rw [wxC_apply]; rfl

theorem g0O_apply (r : Fin 1000) (j : Fin 128) :
    B.g0 (ix2 r ⟨384 + j, by omega⟩) = ∑ k : Fin 128, B.row r 0 k * (half * B.params.go.wx k j) := by
  unfold Blocks.g0; pointwise [k0_pay14]
  refine Finset.sum_congr rfl fun k _ => ?_
  rw [wxO_apply]; rfl

theorem i0_apply (r : Fin 1000) (j : Fin 128) :
    B.i0 (ix2 r j) = B.params.gi.sig B.params.pi (B.row r 0) (fun _ => 0) (fun _ => 0) j := by
  have hg := g0I_apply B r j
  unfold Blocks.g0 at hg
  unfold Blocks.i0; pointwise [k0_pay15, ofBits_half]
  rw [hg, biasI_apply, sig_eq_zero]

/-- The cell state after step 0. -/
theorem c0_apply (r : Fin 1000) (j : Fin 128) : B.c0 (ix2 r j) = (B.st r 0).2 j := by
  refine Eq.trans ?_ (nextC_zero B.params (B.row r 0) j).symm
  rw [← i0_apply, ← cand_eq_zero, ← g0C_apply (B := B), ← biasC_apply]
  unfold Blocks.c0; pointwise [k0_pay16]

/-- The hidden state after step 0, as the next step's product reads it. -/
theorem h0_apply (r : Fin 1000) (j : Fin 128) :
    (half * Ideal.tanh (B.g0 (ix2 r ⟨384 + j, by omega⟩) + (B.biasO (ix1 j) + B.peepO (ix1 j) * B.c0 (ix2 r j))) + half)
      * Ideal.tanh (B.c0 (ix2 r j)) = (B.st r 0).1 j := by
  show _ = B.params.go.sig B.params.po (B.row r 0) (fun _ => 0) (B.st r 0).2 j * Ideal.tanh ((B.st r 0).2 j)
  rw [← sig_eq_first, g0O_apply, biasO_apply, peepO_apply, c0_apply]

/-! ## Step 1 -/

theorem g1I_apply (r : Fin 1000) (j : Fin 128) :
    B.g1 (ix2 r ⟨j, by omega⟩)
      = (∑ k : Fin 128, B.row r 1 k * (half * B.params.gi.wx k j)) + ∑ k : Fin 128, (B.st r 0).1 k * (half * B.params.gi.wh k j) := by
  unfold Blocks.g1; pointwise [k0_pay17, ofBits_half]
  refine congrArg₂ (· + ·) (Finset.sum_congr rfl fun k _ => ?_) (Finset.sum_congr rfl fun k _ => ?_)
  · rw [w2xI_apply]; rfl
  · rw [w2hI_apply, ← h0_apply]; rfl

theorem g1F_apply (r : Fin 1000) (j : Fin 128) :
    B.g1 (ix2 r ⟨128 + j, by omega⟩)
      = (∑ k : Fin 128, B.row r 1 k * (half * B.params.gf.wx k j)) + ∑ k : Fin 128, (B.st r 0).1 k * (half * B.params.gf.wh k j) := by
  unfold Blocks.g1; pointwise [k0_pay17, ofBits_half]
  refine congrArg₂ (· + ·) (Finset.sum_congr rfl fun k _ => ?_) (Finset.sum_congr rfl fun k _ => ?_)
  · rw [w2xF_apply]; rfl
  · rw [w2hF_apply, ← h0_apply]; rfl

theorem g1C_apply (r : Fin 1000) (j : Fin 128) :
    B.g1 (ix2 r ⟨256 + j, by omega⟩)
      = (∑ k : Fin 128, B.row r 1 k * (B.params.gc.wx k j)) + ∑ k : Fin 128, (B.st r 0).1 k * (B.params.gc.wh k j) := by
  unfold Blocks.g1; pointwise [k0_pay17, ofBits_half]
  refine congrArg₂ (· + ·) (Finset.sum_congr rfl fun k _ => ?_) (Finset.sum_congr rfl fun k _ => ?_)
  · rw [w2xC_apply]; rfl
  · rw [w2hC_apply, ← h0_apply]; rfl

theorem g1O_apply (r : Fin 1000) (j : Fin 128) :
    B.g1 (ix2 r ⟨384 + j, by omega⟩)
      = (∑ k : Fin 128, B.row r 1 k * (half * B.params.go.wx k j)) + ∑ k : Fin 128, (B.st r 0).1 k * (half * B.params.go.wh k j) := by
  unfold Blocks.g1; pointwise [k0_pay17, ofBits_half]
  refine congrArg₂ (· + ·) (Finset.sum_congr rfl fun k _ => ?_) (Finset.sum_congr rfl fun k _ => ?_)
  · rw [w2xO_apply]; rfl
  · rw [w2hO_apply, ← h0_apply]; rfl

theorem i1_apply (r : Fin 1000) (j : Fin 128) :
    B.i1 (ix2 r j) = B.params.gi.sig B.params.pi (B.row r 1) (B.st r 0).1 (B.st r 0).2 j := by
  rw [← sig_eq, ← g1I_apply, ← biasI_apply, ← peepI_apply, ← c0_apply]
  unfold Blocks.i1; pointwise [k0_pay18, ofBits_half]; rfl

theorem f1_apply (r : Fin 1000) (j : Fin 128) :
    B.f1 (ix2 r j) + half = B.params.gf.sig B.params.pf (B.row r 1) (B.st r 0).1 (B.st r 0).2 j := by
  rw [← sig_eq, ← g1F_apply, ← biasF_apply, ← peepF_apply, ← c0_apply]
  unfold Blocks.f1; pointwise [k0_pay19, ofBits_half]; rfl

/-- The cell state after step 1. -/
theorem c1_apply (r : Fin 1000) (j : Fin 128) : B.c1 (ix2 r j) = (B.st r 1).2 j := by
  show _ = B.params.gf.sig B.params.pf (B.row r 1) (B.st r 0).1 (B.st r 0).2 j * (B.st r 0).2 j
    + B.params.gi.sig B.params.pi (B.row r 1) (B.st r 0).1 (B.st r 0).2 j * B.params.gc.cand (B.row r 1) (B.st r 0).1 j
  rw [← f1_apply, ← i1_apply, ← cand_eq, ← g1C_apply, ← biasC_apply, ← c0_apply]
  unfold Blocks.c1; pointwise [k0_pay21, ofBits_half, k0_pay20]

/-- The hidden state after step 1, as the next step's product reads it. -/
theorem h1_apply (r : Fin 1000) (j : Fin 128) :
    (half * Ideal.tanh (B.g1 (ix2 r ⟨384 + j, by omega⟩) + (B.biasO (ix1 j) + B.peepO (ix1 j) * B.c1 (ix2 r j))) + half)
      * Ideal.tanh (B.c1 (ix2 r j)) = (B.st r 1).1 j := by
  show _ = B.params.go.sig B.params.po (B.row r 1) (B.st r 0).1 (B.st r 1).2 j * Ideal.tanh ((B.st r 1).2 j)
  rw [← sig_eq, g1O_apply, biasO_apply, peepO_apply, c1_apply]

/-! ## Step 2 -/

theorem g2I_apply (r : Fin 1000) (j : Fin 128) :
    B.g2 (ix2 r ⟨j, by omega⟩)
      = (∑ k : Fin 128, B.row r 2 k * (half * B.params.gi.wx k j)) + ∑ k : Fin 128, (B.st r 1).1 k * (half * B.params.gi.wh k j) := by
  unfold Blocks.g2; pointwise [k0_pay22, ofBits_half]
  refine congrArg₂ (· + ·) (Finset.sum_congr rfl fun k _ => ?_) (Finset.sum_congr rfl fun k _ => ?_)
  · rw [w2xI_apply]; rfl
  · rw [w2hI_apply, ← h1_apply]; rfl

theorem g2F_apply (r : Fin 1000) (j : Fin 128) :
    B.g2 (ix2 r ⟨128 + j, by omega⟩)
      = (∑ k : Fin 128, B.row r 2 k * (half * B.params.gf.wx k j)) + ∑ k : Fin 128, (B.st r 1).1 k * (half * B.params.gf.wh k j) := by
  unfold Blocks.g2; pointwise [k0_pay22, ofBits_half]
  refine congrArg₂ (· + ·) (Finset.sum_congr rfl fun k _ => ?_) (Finset.sum_congr rfl fun k _ => ?_)
  · rw [w2xF_apply]; rfl
  · rw [w2hF_apply, ← h1_apply]; rfl

theorem g2C_apply (r : Fin 1000) (j : Fin 128) :
    B.g2 (ix2 r ⟨256 + j, by omega⟩)
      = (∑ k : Fin 128, B.row r 2 k * (B.params.gc.wx k j)) + ∑ k : Fin 128, (B.st r 1).1 k * (B.params.gc.wh k j) := by
  unfold Blocks.g2; pointwise [k0_pay22, ofBits_half]
  refine congrArg₂ (· + ·) (Finset.sum_congr rfl fun k _ => ?_) (Finset.sum_congr rfl fun k _ => ?_)
  · rw [w2xC_apply]; rfl
  · rw [w2hC_apply, ← h1_apply]; rfl

theorem g2O_apply (r : Fin 1000) (j : Fin 128) :
    B.g2 (ix2 r ⟨384 + j, by omega⟩)
      = (∑ k : Fin 128, B.row r 2 k * (half * B.params.go.wx k j)) + ∑ k : Fin 128, (B.st r 1).1 k * (half * B.params.go.wh k j) := by
  unfold Blocks.g2; pointwise [k0_pay22, ofBits_half]
  refine congrArg₂ (· + ·) (Finset.sum_congr rfl fun k _ => ?_) (Finset.sum_congr rfl fun k _ => ?_)
  · rw [w2xO_apply]; rfl
  · rw [w2hO_apply, ← h1_apply]; rfl

theorem i2_apply (r : Fin 1000) (j : Fin 128) :
    B.i2 (ix2 r j) = B.params.gi.sig B.params.pi (B.row r 2) (B.st r 1).1 (B.st r 1).2 j := by
  rw [← sig_eq, ← g2I_apply, ← biasI_apply, ← peepI_apply, ← c1_apply]
  unfold Blocks.i2; pointwise [k0_pay23, ofBits_half]; rfl

theorem f2_apply (r : Fin 1000) (j : Fin 128) :
    half * B.f2 (ix2 r j) + half = B.params.gf.sig B.params.pf (B.row r 2) (B.st r 1).1 (B.st r 1).2 j := by
  rw [← sig_eq, ← g2F_apply, ← biasF_apply, ← peepF_apply, ← c1_apply]
  unfold Blocks.f2; pointwise [k0_pay24, ofBits_half]; rfl

/-- The cell state after step 2. -/
theorem c2_apply (r : Fin 1000) (j : Fin 128) : B.c2 (ix2 r j) = (B.st r 2).2 j := by
  show _ = B.params.gf.sig B.params.pf (B.row r 2) (B.st r 1).1 (B.st r 1).2 j * (B.st r 1).2 j
    + B.params.gi.sig B.params.pi (B.row r 2) (B.st r 1).1 (B.st r 1).2 j * B.params.gc.cand (B.row r 2) (B.st r 1).1 j
  rw [← f2_apply, ← i2_apply, ← cand_eq, ← g2C_apply, ← biasC_apply, ← c1_apply]
  unfold Blocks.c2; pointwise [k0_pay26, ofBits_half, k0_pay25]

/-- The hidden state after step 2, as the next step's product reads it. -/
theorem h2_apply (r : Fin 1000) (j : Fin 128) :
    (half * Ideal.tanh (B.g2 (ix2 r ⟨384 + j, by omega⟩) + (B.biasO (ix1 j) + B.peepO (ix1 j) * B.c2 (ix2 r j))) + half)
      * Ideal.tanh (B.c2 (ix2 r j)) = (B.st r 2).1 j := by
  show _ = B.params.go.sig B.params.po (B.row r 2) (B.st r 1).1 (B.st r 2).2 j * Ideal.tanh ((B.st r 2).2 j)
  rw [← sig_eq, g2O_apply, biasO_apply, peepO_apply, c2_apply]

/-! ## Step 3 -/

theorem g3I_apply (r : Fin 1000) (j : Fin 128) :
    B.g3 (ix2 r ⟨j, by omega⟩)
      = (∑ k : Fin 128, B.row r 3 k * (half * B.params.gi.wx k j)) + ∑ k : Fin 128, (B.st r 2).1 k * (half * B.params.gi.wh k j) := by
  unfold Blocks.g3; pointwise [k0_pay27, ofBits_half]
  refine congrArg₂ (· + ·) (Finset.sum_congr rfl fun k _ => ?_) (Finset.sum_congr rfl fun k _ => ?_)
  · rw [w2xI_apply]; rfl
  · rw [w2hI_apply, ← h2_apply]; rfl

theorem g3F_apply (r : Fin 1000) (j : Fin 128) :
    B.g3 (ix2 r ⟨128 + j, by omega⟩)
      = (∑ k : Fin 128, B.row r 3 k * (half * B.params.gf.wx k j)) + ∑ k : Fin 128, (B.st r 2).1 k * (half * B.params.gf.wh k j) := by
  unfold Blocks.g3; pointwise [k0_pay27, ofBits_half]
  refine congrArg₂ (· + ·) (Finset.sum_congr rfl fun k _ => ?_) (Finset.sum_congr rfl fun k _ => ?_)
  · rw [w2xF_apply]; rfl
  · rw [w2hF_apply, ← h2_apply]; rfl

theorem g3C_apply (r : Fin 1000) (j : Fin 128) :
    B.g3 (ix2 r ⟨256 + j, by omega⟩)
      = (∑ k : Fin 128, B.row r 3 k * (B.params.gc.wx k j)) + ∑ k : Fin 128, (B.st r 2).1 k * (B.params.gc.wh k j) := by
  unfold Blocks.g3; pointwise [k0_pay27, ofBits_half]
  refine congrArg₂ (· + ·) (Finset.sum_congr rfl fun k _ => ?_) (Finset.sum_congr rfl fun k _ => ?_)
  · rw [w2xC_apply]; rfl
  · rw [w2hC_apply, ← h2_apply]; rfl

theorem g3O_apply (r : Fin 1000) (j : Fin 128) :
    B.g3 (ix2 r ⟨384 + j, by omega⟩)
      = (∑ k : Fin 128, B.row r 3 k * (half * B.params.go.wx k j)) + ∑ k : Fin 128, (B.st r 2).1 k * (half * B.params.go.wh k j) := by
  unfold Blocks.g3; pointwise [k0_pay27, ofBits_half]
  refine congrArg₂ (· + ·) (Finset.sum_congr rfl fun k _ => ?_) (Finset.sum_congr rfl fun k _ => ?_)
  · rw [w2xO_apply]; rfl
  · rw [w2hO_apply, ← h2_apply]; rfl

theorem i3_apply (r : Fin 1000) (j : Fin 128) :
    B.i3 (ix2 r j) = B.params.gi.sig B.params.pi (B.row r 3) (B.st r 2).1 (B.st r 2).2 j := by
  rw [← sig_eq, ← g3I_apply, ← biasI_apply, ← peepI_apply, ← c2_apply]
  unfold Blocks.i3; pointwise [k0_pay28, ofBits_half]; rfl

theorem f3_apply (r : Fin 1000) (j : Fin 128) :
    half * Ideal.tanh (B.f3 (ix2 r j)) + half = B.params.gf.sig B.params.pf (B.row r 3) (B.st r 2).1 (B.st r 2).2 j := by
  rw [← sig_eq, ← g3F_apply, ← biasF_apply, ← peepF_apply, ← c2_apply]
  unfold Blocks.f3; pointwise [k0_pay29, ofBits_half]; rfl

/-- The cell state after step 3. -/
theorem c3_apply (r : Fin 1000) (j : Fin 128) : B.cVal (ix2 r j) = (B.st r 3).2 j := by
  show _ = B.params.gf.sig B.params.pf (B.row r 3) (B.st r 2).1 (B.st r 2).2 j * (B.st r 2).2 j
    + B.params.gi.sig B.params.pi (B.row r 3) (B.st r 2).1 (B.st r 2).2 j * B.params.gc.cand (B.row r 3) (B.st r 2).1 j
  rw [← f3_apply, ← i3_apply, ← cand_eq, ← g3C_apply, ← biasC_apply, ← c2_apply]
  unfold Blocks.cVal; pointwise [k0_pay1, ofBits_half]

/-- The hidden state after step 3, as the next step would read it. -/
theorem h3_apply (r : Fin 1000) (j : Fin 128) :
    (half * Ideal.tanh (B.g3 (ix2 r ⟨384 + j, by omega⟩) + (B.biasO (ix1 j) + B.peepO (ix1 j) * B.cVal (ix2 r j))) + half)
      * Ideal.tanh (B.cVal (ix2 r j)) = (B.st r 3).1 j := by
  show _ = B.params.go.sig B.params.po (B.row r 3) (B.st r 2).1 (B.st r 3).2 j * Ideal.tanh ((B.st r 3).2 j)
  rw [← sig_eq, g3O_apply, biasO_apply, peepO_apply, c3_apply]

/-! ## What the body stores -/

/-- The stored hidden state. -/
theorem hVal_apply (r : Fin 1000) (j : Fin 128) : B.hVal (ix2 r j) = (B.st r 3).1 j := by
  rw [← h3_apply]
  unfold Blocks.hVal; pointwise [k0_pay2, ofBits_half]; rfl

/-- The stored output. -/
theorem outVal_apply (r : Fin 1000) :
    B.outVal (ix2 r 0) = (∑ k : Fin 128, (B.st r 3).1 k * B.wout (ix2 k 0)) + B.bout (ix1 0) := by
  unfold Blocks.outVal; rw [ld_col, ld_one]; pointwise [k0_pay3]
  refine congrArg (· + _) (Finset.sum_congr rfl fun k _ => ?_)
  rw [← hVal_apply]; rfl

end Cert.KernelIdeal.Body

end
-- ==== Proof.IdealResults.lean ====
module

public import proofs.«01_k».proof.Proof.IdealData
public import proofs.«01_k».proof.Proof.IdealValue
public import Idealize.ShloMosaic.Lib.Pipeline.ValueKit

@[expose] public section

/-! The arrays that the kernel `KernelIdeal` leaves, as functions of the arguments: what the body leaves at a grid point is read
    at a row of its block, and the ten blocks tile each array. -/

set_option maxRecDepth 16384

noncomputable section

namespace Cert.KernelIdeal.Results

open Cert.KernelIdeal Cert.KernelIdeal.Gen Cert.KernelIdeal.Body Cell
open Idealize.ShloMosaic Idealize.ShloMosaic.TcCoe

variable (m : (ℓ : Loc nD τ sig) → Buf (Elt Ideal) ℓ) (c : Dev nD)

/-! ## The arguments, as a cell and its inputs -/

/-- The cell that the arguments give. -/
def params : Params :=
  ofArrays (m ((c.tc : Thread nD τ).loc main_arg9)) (m ((c.tc : Thread nD τ).loc main_arg11)) (m ((c.tc : Thread nD τ).loc main_arg13)) (m ((c.tc : Thread nD τ).loc main_arg15)) (m ((c.tc : Thread nD τ).loc main_arg17)) (m ((c.tc : Thread nD τ).loc main_arg19)) (m ((c.tc : Thread nD τ).loc main_arg21)) (m ((c.tc : Thread nD τ).loc main_arg23))
    (m ((c.tc : Thread nD τ).loc main_arg10)) (m ((c.tc : Thread nD τ).loc main_arg12)) (m ((c.tc : Thread nD τ).loc main_arg28)) (m ((c.tc : Thread nD τ).loc main_arg14)) (m ((c.tc : Thread nD τ).loc main_arg16)) (m ((c.tc : Thread nD τ).loc main_arg29)) (m ((c.tc : Thread nD τ).loc main_arg18)) (m ((c.tc : Thread nD τ).loc main_arg20)) (m ((c.tc : Thread nD τ).loc main_arg30)) (m ((c.tc : Thread nD τ).loc main_arg22)) (m ((c.tc : Thread nD τ).loc main_arg24)) (m ((c.tc : Thread nD τ).loc main_arg31)) (m ((c.tc : Thread nD τ).loc main_arg25)) (m ((c.tc : Thread nD τ).loc main_arg26)) (m ((c.tc : Thread nD τ).loc main_arg27))

/-- The input of node `n` at step `t`. -/
def row (n : Fin 10000) (t : ℕ) : Row := fun k => ((m ((c.tc : Thread nD τ).loc main_arg0)) : FVec Ideal S4x10000x128 .f32) (ix3 (Fin.ofNat 4 t) n k)

/-- The states of node `n`. -/
def st (n : Fin 10000) (t : ℕ) : Row × Row := (params m c).states (row m c n) t

/-! ## The blocks of a grid point -/

/-- The blocks' places: of the input and of the three outputs, block `t` at point `t`. -/
theorem place (t : Fin cfg0.N) : win0_0.index t = ![0, t.val, 0] ∧ win0_26.index t = ![t.val, 0]
    ∧ win0_27.index t = ![t.val, 0] ∧ win0_28.index t = ![t.val, 0] := by
  revert t; decide +kernel

/-- Of a weight, the one block. -/
theorem place_weights (t : Fin cfg0.N) : win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0]
    ∧ win0_10.index t = ![0]
    ∧ win0_11.index t = ![0]
    ∧ win0_12.index t = ![0]
    ∧ win0_13.index t = ![0]
    ∧ win0_14.index t = ![0]
    ∧ win0_15.index t = ![0]
    ∧ win0_16.index t = ![0]
    ∧ win0_17.index t = ![0]
    ∧ win0_18.index t = ![0]
    ∧ win0_19.index t = ![0]
    ∧ win0_20.index t = ![0]
    ∧ win0_21.index t = ![0]
    ∧ win0_22.index t = ![0]
    ∧ win0_23.index t = ![0]
    ∧ win0_24.index t = ![0, 0]
    ∧ win0_25.index t = ![0] := by
  revert t; decide +kernel

theorem block_1 (t : Fin cfg0.N) : iblk m c 1 t = (m ((c.tc : Thread nD τ).loc main_arg9)) := by
  funext y; blk_ext [iblk, V, place_weights t]
theorem block_2 (t : Fin cfg0.N) : iblk m c 2 t = (m ((c.tc : Thread nD τ).loc main_arg11)) := by
  funext y; blk_ext [iblk, V, place_weights t]
theorem block_3 (t : Fin cfg0.N) : iblk m c 3 t = (m ((c.tc : Thread nD τ).loc main_arg13)) := by
  funext y; blk_ext [iblk, V, place_weights t]
theorem block_4 (t : Fin cfg0.N) : iblk m c 4 t = (m ((c.tc : Thread nD τ).loc main_arg15)) := by
  funext y; blk_ext [iblk, V, place_weights t]
theorem block_5 (t : Fin cfg0.N) : iblk m c 5 t = (m ((c.tc : Thread nD τ).loc main_arg17)) := by
  funext y; blk_ext [iblk, V, place_weights t]
theorem block_6 (t : Fin cfg0.N) : iblk m c 6 t = (m ((c.tc : Thread nD τ).loc main_arg19)) := by
  funext y; blk_ext [iblk, V, place_weights t]
theorem block_7 (t : Fin cfg0.N) : iblk m c 7 t = (m ((c.tc : Thread nD τ).loc main_arg21)) := by
  funext y; blk_ext [iblk, V, place_weights t]
theorem block_8 (t : Fin cfg0.N) : iblk m c 8 t = (m ((c.tc : Thread nD τ).loc main_arg23)) := by
  funext y; blk_ext [iblk, V, place_weights t]
theorem block_9 (t : Fin cfg0.N) : iblk m c 9 t = (m ((c.tc : Thread nD τ).loc main_arg10)) := by
  funext y; blk_ext [iblk, V, place_weights t]
theorem block_10 (t : Fin cfg0.N) : iblk m c 10 t = (m ((c.tc : Thread nD τ).loc main_arg12)) := by
  funext y; blk_ext [iblk, V, place_weights t]
theorem block_11 (t : Fin cfg0.N) : iblk m c 11 t = (m ((c.tc : Thread nD τ).loc main_arg28)) := by
  funext y; blk_ext [iblk, V, place_weights t]
theorem block_12 (t : Fin cfg0.N) : iblk m c 12 t = (m ((c.tc : Thread nD τ).loc main_arg14)) := by
  funext y; blk_ext [iblk, V, place_weights t]
theorem block_13 (t : Fin cfg0.N) : iblk m c 13 t = (m ((c.tc : Thread nD τ).loc main_arg16)) := by
  funext y; blk_ext [iblk, V, place_weights t]
theorem block_14 (t : Fin cfg0.N) : iblk m c 14 t = (m ((c.tc : Thread nD τ).loc main_arg29)) := by
  funext y; blk_ext [iblk, V, place_weights t]
theorem block_15 (t : Fin cfg0.N) : iblk m c 15 t = (m ((c.tc : Thread nD τ).loc main_arg18)) := by
  funext y; blk_ext [iblk, V, place_weights t]
theorem block_16 (t : Fin cfg0.N) : iblk m c 16 t = (m ((c.tc : Thread nD τ).loc main_arg20)) := by
  funext y; blk_ext [iblk, V, place_weights t]
theorem block_17 (t : Fin cfg0.N) : iblk m c 17 t = (m ((c.tc : Thread nD τ).loc main_arg30)) := by
  funext y; blk_ext [iblk, V, place_weights t]
theorem block_18 (t : Fin cfg0.N) : iblk m c 18 t = (m ((c.tc : Thread nD τ).loc main_arg22)) := by
  funext y; blk_ext [iblk, V, place_weights t]
theorem block_19 (t : Fin cfg0.N) : iblk m c 19 t = (m ((c.tc : Thread nD τ).loc main_arg24)) := by
  funext y; blk_ext [iblk, V, place_weights t]
theorem block_20 (t : Fin cfg0.N) : iblk m c 20 t = (m ((c.tc : Thread nD τ).loc main_arg31)) := by
  funext y; blk_ext [iblk, V, place_weights t]
theorem block_21 (t : Fin cfg0.N) : iblk m c 21 t = (m ((c.tc : Thread nD τ).loc main_arg25)) := by
  funext y; blk_ext [iblk, V, place_weights t]
theorem block_22 (t : Fin cfg0.N) : iblk m c 22 t = (m ((c.tc : Thread nD τ).loc main_arg26)) := by
  funext y; blk_ext [iblk, V, place_weights t]
theorem block_23 (t : Fin cfg0.N) : iblk m c 23 t = (m ((c.tc : Thread nD τ).loc main_arg27)) := by
  funext y; blk_ext [iblk, V, place_weights t]
theorem block_24 (t : Fin cfg0.N) : iblk m c 24 t = (m ((c.tc : Thread nD τ).loc main_arg32)) := by
  funext y; blk_ext [iblk, V, place_weights t]
theorem block_25 (t : Fin cfg0.N) : iblk m c 25 t = (m ((c.tc : Thread nD τ).loc main_arg33)) := by
  funext y; blk_ext [iblk, V, place_weights t]

/-- A point's cell is the arguments'. -/
theorem params_at (t : Fin cfg0.N) : (blocksAt m c t).params = params m c := by
  unfold Blocks.params blocksAt params
  dsimp only
  rw [block_1, block_2, block_3, block_4, block_5, block_6, block_7, block_8, block_9, block_10, block_11, block_12, block_13, block_14, block_15, block_16, block_17, block_18, block_19, block_20, block_21, block_22, block_23]

/-- Row `r` of point `t` is a node of the arrays. -/
def node (t : Fin cfg0.N) (r : Fin 1000) : Fin 10000 := ⟨t.val * 1000 + r.val, by
  have h : t.val < 10 := lt_of_lt_of_eq t.isLt N_0
  omega⟩

/-- The input block of point `t` at row `r`. -/
theorem row_at (t : Fin cfg0.N) (r : Fin 1000) : (blocksAt m c t).row r = row m c (node t r) := by
  funext s k
  unfold Blocks.row blocksAt row node
  dsimp only
  blk_ext [iblk, V, place t]

theorem st_at (t : Fin cfg0.N) (r : Fin 1000) (s : ℕ) : (blocksAt m c t).st r s = st m c (node t r) s := by
  unfold Blocks.st st; rw [params_at, row_at]

/-! ## The arrays -/

/-- The hidden states after step 3. -/
def hArr : FVec Ideal S10000x128 .f32 := fun i => (st m c (i 0) 3).1 (i 1)

/-- The cell states after step 3. -/
def cArr : FVec Ideal S10000x128 .f32 := fun i => (st m c (i 0) 3).2 (i 1)

/-- The output, before its unit axis goes. -/
def outArr : FVec Ideal S10000x1 .f32 := fun i =>
  (∑ k : Fin 128, (st m c (i 0) 3).1 k * ((m ((c.tc : Thread nD τ).loc main_arg32)) : FVec Ideal S128x1 .f32) (ix2 k 0))
    + ((m ((c.tc : Thread nD τ).loc main_arg33)) : FVec Ideal S1 .f32) (ix1 0)

/-- Element (r, j) of the hidden state's block at point `t` is element (node, j) of the array. -/
theorem emb_27 (t : Fin cfg0.N) (r : Fin 1000) (j : Fin 128) : (win0_27.blk t).view.emb (ix2 r j) = ix2 (node t r) j := by
  blk_ext [node, place t]

/-- The same of the cell state. -/
theorem emb_28 (t : Fin cfg0.N) (r : Fin 1000) (j : Fin 128) : (win0_28.blk t).view.emb (ix2 r j) = ix2 (node t r) j := by
  blk_ext [node, place t]

/-- And of the output's column. -/
theorem emb_26 (t : Fin cfg0.N) (r : Fin 1000) : (win0_26.blk t).view.emb (ix2 r (0 : Fin 1)) = ix2 (node t r) (0 : Fin 1) := by
  blk_ext [node, place t]

/-- A block's index is a pair. -/
theorem pair (y : S1000x128.Idx) : ∃ (r : Fin 1000) (j : Fin 128), y = ix2 r j :=
  ⟨y 0, y 1, by funext a; fin_cases a <;> rfl⟩

/-- Of a column, a row. -/
theorem pair_column (y : S1000x1.Idx) : ∃ r : Fin 1000, y = ix2 r (0 : Fin 1) :=
  ⟨y 0, by
    funext a; fin_cases a
    · rfl
    · exact Fin.ext (Nat.lt_one_iff.mp (y 1).isLt)⟩

theorem zeros : (![0, 0] : Fin 2 → ℕ) = fun _ => 0 := funext fun a => by fin_cases a <;> rfl

/-- What point `t` leaves in the hidden state's block. -/
theorem left_h (t : Fin cfg0.N) (r : Fin 1000) (j : Fin 128) : (blocksAt m c t).hBuf (ix2 r j) = hArr m c (ix2 (node t r) j) := by
  unfold Blocks.hBuf
  rw [View.canon_unit_zero zeros, hVal_apply, st_at]; rfl

/-- And in the cell state's. -/
theorem left_c (t : Fin cfg0.N) (r : Fin 1000) (j : Fin 128) : (blocksAt m c t).cBuf (ix2 r j) = cArr m c (ix2 (node t r) j) := by
  unfold Blocks.cBuf
  rw [View.canon_unit_zero zeros, c3_apply, st_at]; rfl

/-- And in the output's. -/
theorem left_out (t : Fin cfg0.N) (r : Fin 1000) : (blocksAt m c t).outBuf (ix2 r (0 : Fin 1)) = outArr m c (ix2 (node t r) (0 : Fin 1)) := by
  unfold Blocks.outBuf
  rw [View.canon_unit_zero zeros, outVal_apply, st_at]
  have e : (blocksAt m c t).wout = (m ((c.tc : Thread nD τ).loc main_arg32)) := block_24 m c t
  have e' : (blocksAt m c t).bout = (m ((c.tc : Thread nD τ).loc main_arg33)) := block_25 m c t
  rw [e, e']; rfl

/-! Each output's blocks cover its array. -/

theorem covers_26 : (cfg0.win 26).Covers := by decide +kernel
theorem covers_27 : (cfg0.win 27).Covers := by decide +kernel
theorem covers_28 : (cfg0.win 28).Covers := by decide +kernel

/-- The hidden states' array after the run. -/
theorem final_h : (dats m 0 c).arrAt 27 cfg0.N = hArr m c := by
  refine (dats m 0 c).arrAt_eq_of_covers 27 _ covers_27 fun t hf y => ?_
  obtain ⟨r, j, rfl⟩ := pair y
  blk_simp
  rw [after_27, emb_27]
  exact left_h m c t r j

/-- The cell states'. -/
theorem final_c : (dats m 0 c).arrAt 28 cfg0.N = cArr m c := by
  refine (dats m 0 c).arrAt_eq_of_covers 28 _ covers_28 fun t hf y => ?_
  obtain ⟨r, j, rfl⟩ := pair y
  blk_simp
  rw [after_28, emb_28]
  exact left_c m c t r j

/-- The output's, a column. -/
theorem final_out : (dats m 0 c).arrAt 26 cfg0.N = outArr m c := by
  refine (dats m 0 c).arrAt_eq_of_covers 26 _ covers_26 fun t hf y => ?_
  obtain ⟨r, rfl⟩ := pair_column y
  blk_simp
  rw [after_26, emb_26]
  exact left_out m c t r

/-- The output, its unit axis dropped: what the line after the region leaves. -/
def outFlat : FVec Ideal S10000 .f32 := fun i =>
  (∑ k : Fin 128, (st m c (i 0) 3).1 k * ((m ((c.tc : Thread nD τ).loc main_arg32)) : FVec Ideal S128x1 .f32) (ix2 k (0 : Fin 1)))
    + ((m ((c.tc : Thread nD τ).loc main_arg33)) : FVec Ideal S1 .f32) (ix1 (0 : Fin 1))

/-- And it is left there. -/
theorem final_flat : Pipeline.afterTail₀ cfgs (dats m) 0 (V0 m) [hostOps1] c main_v1 = outFlat m c := by
  unfold Pipeline.afterTail₀
  simp only [List.flatten_cons, List.flatten_nil, List.append_nil]
  after_results
  have e : Pipeline.withArrays (cfgs 0).spec c (V0 m c) (fun w => (dats m 0 c).arrAt w (cfgs 0).N) (Proc.tc.devRef main_v0_0)
      = outArr m c :=
    (Pipeline.withArrays_arr (cfgs 0).spec winFacts0.arr_inj c (V0 m c) (fun w => (dats m 0 c).arrAt w (cfgs 0).N) 26).trans (final_out m c)
  rw [e]
  funext i
  obtain ⟨n, rfl⟩ : ∃ n : Fin 10000, i = ix1 n := ⟨i 0, by funext a; fin_cases a; rfl⟩
  show shapeCast S10000 (outArr m c) shapeCasts_S10000x1_S10000 (ix1 n) = _
  pointwise
  rfl

end Cert.KernelIdeal.Results

end
-- ==== Proof.RefValue.lean ====
module

public import proofs.«01_k».proof.Proof.Gen.ReferenceIdeal.Run
public import proofs.«01_k».proof.Proof.Cell

@[expose] public section

/-! The reference's results element by element: row `n` of each state is the cell's state of that row (`Cell.Params.states`). -/

set_option maxRecDepth 16384

noncomputable section

namespace Cert.ReferenceIdeal.Row

open Cert.ReferenceIdeal Cert.ReferenceIdeal.Gen Cert.ReferenceIdeal.Value Cell
open Idealize.ShloMosaic Idealize.ShloMosaic.TcCoe Idealize.SL.Sem Idealize.ShloMosaic.StableHlo

/-! ## A step's gates as arrays -/

/-- A vector under every row. -/
def rows (b : FVec Ideal S128 .f32) : FVec Ideal S10000x128 .f32 :=
  broadcastInDim S10000x128 ![0, 1] bcast_S1x128_S10000x128_0_1 (broadcastInDim S1x128 ![1] bcast_S128_S1x128_1 b)

/-- Row `n` of an array. -/
abbrev rowOf (a : FVec Ideal S10000x128 .f32) (n : Fin 10000) : Row := fun k => a (ix2 n k)

/-- A gate's linear part. -/
def lin (wx : FVec Ideal S128x128 .f32) (bx : FVec Ideal S128 .f32) (wh : FVec Ideal S128x128 .f32) (bh : FVec Ideal S128 .f32)
    (x h : FVec Ideal S10000x128 .f32) : FVec Ideal S10000x128 .f32 :=
  addf (addf (addf (Host.dotGeneral (φ₁ := .f32) (φ₂ := .f32) dot_S10000x128_S128x128_S10000x128_1_0_0_1_n_n none x wx) (rows bx))
    (Host.dotGeneral (φ₁ := .f32) (φ₂ := .f32) dot_S10000x128_S128x128_S10000x128_1_0_0_1_n_n none h wh)) (rows bh)

/-- A sigmoid gate. -/
def sgate (wx : FVec Ideal S128x128 .f32) (bx : FVec Ideal S128 .f32) (wh : FVec Ideal S128x128 .f32) (bh p b : FVec Ideal S128 .f32)
    (x h c : FVec Ideal S10000x128 .f32) : FVec Ideal S10000x128 .f32 :=
  Host.divf (broadcastInDim S10000x128 ![] bcast_S_S10000x128 (constant S_ .f32 0x3F800000#32))
    (addf (broadcastInDim S10000x128 ![] bcast_S_S10000x128 (constant S_ .f32 0x3F800000#32))
      (Host.exp (Host.negf (addf (addf (lin wx bx wh bh x h) (mulf (rows p) c)) (rows b)))))

/-- The candidate. -/
def cand (wx : FVec Ideal S128x128 .f32) (bx : FVec Ideal S128 .f32) (wh : FVec Ideal S128x128 .f32) (bh b : FVec Ideal S128 .f32)
    (x h : FVec Ideal S10000x128 .f32) : FVec Ideal S10000x128 .f32 :=
  Host.tanh (addf (lin wx bx wh bh x h) (rows b))

/-- A gate's linear part at an element. -/
theorem lin_apply (wx : FVec Ideal S128x128 .f32) (bx : FVec Ideal S128 .f32) (wh : FVec Ideal S128x128 .f32) (bh b : FVec Ideal S128 .f32)
    (x h : FVec Ideal S10000x128 .f32) (n : Fin 10000) (j : Fin 128) :
    lin wx bx wh bh x h (ix2 n j)
      = (Gate.mk (fun k j => wx (ix2 k j)) (fun k j => wh (ix2 k j)) (fun j => bx (ix1 j)) (fun j => bh (ix1 j)) (fun j => b (ix1 j))).lin
          (fun k => x (ix2 n k)) (fun k => h (ix2 n k)) j := by
  unfold Gate.lin dot
  pointwise [lin, rows]

/-- A sigmoid gate at an element. -/
theorem sgate_apply (wx : FVec Ideal S128x128 .f32) (bx : FVec Ideal S128 .f32) (wh : FVec Ideal S128x128 .f32) (bh p b : FVec Ideal S128 .f32)
    (x h c : FVec Ideal S10000x128 .f32) (n : Fin 10000) (j : Fin 128) :
    sgate wx bx wh bh p b x h c (ix2 n j)
      = (Gate.mk (fun k j => wx (ix2 k j)) (fun k j => wh (ix2 k j)) (fun j => bx (ix1 j)) (fun j => bh (ix1 j)) (fun j => b (ix1 j))).sig
          (fun j => p (ix1 j)) (fun k => x (ix2 n k)) (fun k => h (ix2 n k)) (fun k => c (ix2 n k)) j := by
  unfold Gate.sig
  rw [← lin_apply]
  unfold Ideal.logistic
  pointwise [sgate, rows]

/-- The candidate at an element. -/
theorem cand_apply (wx : FVec Ideal S128x128 .f32) (bx : FVec Ideal S128 .f32) (wh : FVec Ideal S128x128 .f32) (bh b : FVec Ideal S128 .f32)
    (x h : FVec Ideal S10000x128 .f32) (n : Fin 10000) (j : Fin 128) :
    cand wx bx wh bh b x h (ix2 n j)
      = (Gate.mk (fun k j => wx (ix2 k j)) (fun k j => wh (ix2 k j)) (fun j => bx (ix1 j)) (fun j => bh (ix1 j)) (fun j => b (ix1 j))).cand
          (fun k => x (ix2 n k)) (fun k => h (ix2 n k)) j := by
  unfold Gate.cand
  rw [← lin_apply]
  pointwise [cand, rows]

/-! ## The arguments -/

variable (V0 : Valuation τ sig (Elt Ideal))

/-- The cell's parameters that the arguments hold. -/
def params : Params :=
  ofArrays (V0 (Proc.devRef .tc main_arg9)) (V0 (Proc.devRef .tc main_arg11)) (V0 (Proc.devRef .tc main_arg13)) (V0 (Proc.devRef .tc main_arg15)) (V0 (Proc.devRef .tc main_arg17)) (V0 (Proc.devRef .tc main_arg19)) (V0 (Proc.devRef .tc main_arg21)) (V0 (Proc.devRef .tc main_arg23))
    (V0 (Proc.devRef .tc main_arg10)) (V0 (Proc.devRef .tc main_arg12)) (V0 (Proc.devRef .tc main_arg28)) (V0 (Proc.devRef .tc main_arg14)) (V0 (Proc.devRef .tc main_arg16)) (V0 (Proc.devRef .tc main_arg29)) (V0 (Proc.devRef .tc main_arg18)) (V0 (Proc.devRef .tc main_arg20)) (V0 (Proc.devRef .tc main_arg30)) (V0 (Proc.devRef .tc main_arg22)) (V0 (Proc.devRef .tc main_arg24)) (V0 (Proc.devRef .tc main_arg31)) (V0 (Proc.devRef .tc main_arg25)) (V0 (Proc.devRef .tc main_arg26)) (V0 (Proc.devRef .tc main_arg27))

/-- Node `n`'s row at time step `t`. -/
def row (n : Fin 10000) (t : ℕ) : Row := fun k => (V0 (Proc.devRef .tc main_arg0) : FVec Ideal S4x10000x128 .f32) (ix3 (Fin.ofNat 4 t) n k)

/-- Node `n`'s states after step `t`. -/
def st (n : Fin 10000) (t : ℕ) : Row × Row := (params V0).states (row V0 n) t

/-- A step's next cell state. -/
def nextC (x h c : FVec Ideal S10000x128 .f32) : FVec Ideal S10000x128 .f32 :=
  addf (mulf (sgate (V0 (Proc.devRef .tc main_arg13)) (V0 (Proc.devRef .tc main_arg14)) (V0 (Proc.devRef .tc main_arg15)) (V0 (Proc.devRef .tc main_arg16)) (V0 (Proc.devRef .tc main_arg26)) (V0 (Proc.devRef .tc main_arg29)) x h c) c)
    (mulf (sgate (V0 (Proc.devRef .tc main_arg9)) (V0 (Proc.devRef .tc main_arg10)) (V0 (Proc.devRef .tc main_arg11)) (V0 (Proc.devRef .tc main_arg12)) (V0 (Proc.devRef .tc main_arg25)) (V0 (Proc.devRef .tc main_arg28)) x h c)
      (cand (V0 (Proc.devRef .tc main_arg17)) (V0 (Proc.devRef .tc main_arg18)) (V0 (Proc.devRef .tc main_arg19)) (V0 (Proc.devRef .tc main_arg20)) (V0 (Proc.devRef .tc main_arg30)) x h))

/-- A step's next hidden state. -/
def nextH (x h c : FVec Ideal S10000x128 .f32) : FVec Ideal S10000x128 .f32 :=
  mulf (sgate (V0 (Proc.devRef .tc main_arg21)) (V0 (Proc.devRef .tc main_arg22)) (V0 (Proc.devRef .tc main_arg23)) (V0 (Proc.devRef .tc main_arg24)) (V0 (Proc.devRef .tc main_arg27)) (V0 (Proc.devRef .tc main_arg31)) x h c) (Host.tanh c)

/-- The next cell state at an element. -/
theorem nextC_apply (x h c : FVec Ideal S10000x128 .f32) (n : Fin 10000) (j : Fin 128) :
    nextC V0 x h c (ix2 n j) = (params V0).nextC (rowOf x n) (rowOf h n) (rowOf c n) j := by
  unfold nextC; pointwise
  rw [sgate_apply, sgate_apply, cand_apply]; rfl

/-- The next hidden state at an element. -/
theorem nextH_apply (x h c : FVec Ideal S10000x128 .f32) (n : Fin 10000) (j : Fin 128) :
    nextH V0 x h c (ix2 n j) = (params V0).nextH (rowOf x n) (rowOf h n) (rowOf c n) j := by
  unfold nextH; pointwise
  rw [sgate_apply]; rfl

/-! ## The four steps -/

/-- The zero hidden state and the zero cell state before step 0. -/
theorem zero_h (n : Fin 10000) : rowOf (res_main_v0 V0) n = fun _ => (0 : EReal) := by
  funext k; unfold rowOf res_main_v0; pointwise
theorem zero_c (n : Fin 10000) : rowOf (res_main_v1 V0) n = fun _ => (0 : EReal) := by
  funext k; unfold rowOf res_main_v1; pointwise

/-- The input at step 0. -/
theorem x0_row (n : Fin 10000) : rowOf (res_main_v3 V0) n = row V0 n 0 := by
  funext k; unfold rowOf res_main_v3 row; pointwise; rfl

/-- The input at step 1. -/
theorem x1_row (n : Fin 10000) : rowOf (res_main_v89 V0) n = row V0 n 1 := by
  funext k; unfold rowOf res_main_v89 row; pointwise; rfl

/-- The input at step 2. -/
theorem x2_row (n : Fin 10000) : rowOf (res_main_v175 V0) n = row V0 n 2 := by
  funext k; unfold rowOf res_main_v175 row; pointwise; rfl

/-- The input at step 3. -/
theorem x3_row (n : Fin 10000) : rowOf (res_main_v261 V0) n = row V0 n 3 := by
  funext k; unfold rowOf res_main_v261 row; pointwise; rfl

/-- The cell state after step 0. -/
theorem c0_row (n : Fin 10000) : rowOf (res_main_v63 V0) n = (st V0 n 0).2 := by
  have e : res_main_v63 V0 = nextC V0 (res_main_v3 V0) (res_main_v0 V0) (res_main_v1 V0) := rfl
  funext j
  unfold rowOf
  rw [e, nextC_apply, x0_row, zero_h, zero_c]; rfl

/-- The hidden state after step 0. -/
theorem h0_row (n : Fin 10000) : rowOf (res_main_v87 V0) n = (st V0 n 0).1 := by
  have e : res_main_v87 V0 = nextH V0 (res_main_v3 V0) (res_main_v0 V0) (res_main_v63 V0) := rfl
  funext j
  unfold rowOf
  rw [e, nextH_apply, x0_row, zero_h, c0_row]; rfl

/-- The cell state after step 1. -/
theorem c1_row (n : Fin 10000) : rowOf (res_main_v149 V0) n = (st V0 n 1).2 := by
  have e : res_main_v149 V0 = nextC V0 (res_main_v89 V0) (res_main_v87 V0) (res_main_v63 V0) := rfl
  funext j
  unfold rowOf
  rw [e, nextC_apply, x1_row, h0_row, c0_row]; rfl

/-- The hidden state after step 1. -/
theorem h1_row (n : Fin 10000) : rowOf (res_main_v173 V0) n = (st V0 n 1).1 := by
  have e : res_main_v173 V0 = nextH V0 (res_main_v89 V0) (res_main_v87 V0) (res_main_v149 V0) := rfl
  funext j
  unfold rowOf
  rw [e, nextH_apply, x1_row, h0_row, c1_row]; rfl

/-- The cell state after step 2. -/
theorem c2_row (n : Fin 10000) : rowOf (res_main_v235 V0) n = (st V0 n 2).2 := by
  have e : res_main_v235 V0 = nextC V0 (res_main_v175 V0) (res_main_v173 V0) (res_main_v149 V0) := rfl
  funext j
  unfold rowOf
  rw [e, nextC_apply, x2_row, h1_row, c1_row]; rfl

/-- The hidden state after step 2. -/
theorem h2_row (n : Fin 10000) : rowOf (res_main_v259 V0) n = (st V0 n 2).1 := by
  have e : res_main_v259 V0 = nextH V0 (res_main_v175 V0) (res_main_v173 V0) (res_main_v235 V0) := rfl
  funext j
  unfold rowOf
  rw [e, nextH_apply, x2_row, h1_row, c2_row]; rfl

/-- The cell state after step 3. -/
theorem c3_row (n : Fin 10000) : rowOf (res_main_v321 V0) n = (st V0 n 3).2 := by
  have e : res_main_v321 V0 = nextC V0 (res_main_v261 V0) (res_main_v259 V0) (res_main_v235 V0) := rfl
  funext j
  unfold rowOf
  rw [e, nextC_apply, x3_row, h2_row, c2_row]; rfl

/-- The hidden state after step 3, as an array. -/
def lastH : FVec Ideal S10000x128 .f32 := nextH V0 (res_main_v261 V0) (res_main_v259 V0) (res_main_v321 V0)

/-- The hidden state after step 3. -/
theorem h3_row (n : Fin 10000) : rowOf (lastH V0) n = (st V0 n 3).1 := by
  have e : lastH V0 = nextH V0 (res_main_v261 V0) (res_main_v259 V0) (res_main_v321 V0) := rfl
  funext j
  unfold rowOf
  rw [e, nextH_apply, x3_row, h2_row, c3_row]; rfl

/-! ## The results -/

/-- The output, as an array. -/
def out : FVec Ideal S10000 .f32 :=
  shapeCast _ (addf (Host.dotGeneral (φ₁ := .f32) (φ₂ := .f32) dot_S10000x128_S128x1_S10000x1_1_0_0_1_n_n none (lastH V0) (V0 (Proc.devRef .tc main_arg32) : FVec Ideal S128x1 .f32))
    (broadcastInDim S10000x1 ![0, 1] bcast_S1x1_S10000x1_0_1 (broadcastInDim S1x1 ![1] bcast_S1_S1x1_1 (V0 (Proc.devRef .tc main_arg33) : FVec Ideal S1 .f32))))
    shapeCasts_S10000x1_S10000

/-- The output at a node: its last hidden state times the output column, and the output's bias. -/
theorem out_apply (n : Fin 10000) :
    out V0 (ix1 n) = (∑ k : Fin 128, (st V0 n 3).1 k * (V0 (Proc.devRef .tc main_arg32) : FVec Ideal S128x1 .f32) (ix2 k 0))
      + (V0 (Proc.devRef .tc main_arg33) : FVec Ideal S1 .f32) (ix1 0) := by
  rw [← h3_row]
  unfold out; pointwise

end Cert.ReferenceIdeal.Row

end
-- ==== Proof.lean ====
module

public import proofs.«01_k».proof.Defs
public import proofs.«01_k».proof.Proof.Frame
public import proofs.«01_k».proof.Proof.IdealFrame
public import proofs.«01_k».proof.Proof.IdealResults
public import proofs.«01_k».proof.Proof.RefValue
public import proofs.«01_k».proof.Proof.Gen.ReferenceIdeal.Run
public import Idealize.ShloMosaic.Lib.Quiescent

@[expose] public section

/-! The claims: the three frames, and the three results of the kernel and of the reference, equal on arguments that agree. -/

set_option maxRecDepth 16384

noncomputable section

namespace Cert.Proof

open Idealize.ShloMosaic Idealize.ShloMosaic.TcCoe Idealize.SL.Sem
open Idealize.ShloMosaic.StableHlo (launchContents)

/-! ## The frames -/

theorem frame_kernel : Cert.quiescent_Kernel := fun m g _ => Cert.Kernel.Body.frame m g

theorem frame_ideal : Cert.quiescent_KernelIdeal := fun m g _ => Cert.KernelIdeal.Body.frame m g

/-- The reference declares no semaphore. -/
theorem frame_reference : Cert.quiescent_ReferenceIdeal := fun m g _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m g)

/-! ## The two programs' results, on arguments that agree -/

section Agree

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two memories hold the same arguments, of those that reach a result. -/
def Agree : Prop :=
  launchContents m' c (Proc.devRef .tc Cert.ReferenceIdeal.main_arg0) = m ((c.tc : Thread Cert.KernelIdeal.nD Cert.KernelIdeal.τ).loc Cert.KernelIdeal.main_arg0)
    ∧ launchContents m' c (Proc.devRef .tc Cert.ReferenceIdeal.main_arg9) = m ((c.tc : Thread Cert.KernelIdeal.nD Cert.KernelIdeal.τ).loc Cert.KernelIdeal.main_arg9)
    ∧ launchContents m' c (Proc.devRef .tc Cert.ReferenceIdeal.main_arg11) = m ((c.tc : Thread Cert.KernelIdeal.nD Cert.KernelIdeal.τ).loc Cert.KernelIdeal.main_arg11)
    ∧ launchContents m' c (Proc.devRef .tc Cert.ReferenceIdeal.main_arg13) = m ((c.tc : Thread Cert.KernelIdeal.nD Cert.KernelIdeal.τ).loc Cert.KernelIdeal.main_arg13)
    ∧ launchContents m' c (Proc.devRef .tc Cert.ReferenceIdeal.main_arg15) = m ((c.tc : Thread Cert.KernelIdeal.nD Cert.KernelIdeal.τ).loc Cert.KernelIdeal.main_arg15)
    ∧ launchContents m' c (Proc.devRef .tc Cert.ReferenceIdeal.main_arg17) = m ((c.tc : Thread Cert.KernelIdeal.nD Cert.KernelIdeal.τ).loc Cert.KernelIdeal.main_arg17)
    ∧ launchContents m' c (Proc.devRef .tc Cert.ReferenceIdeal.main_arg19) = m ((c.tc : Thread Cert.KernelIdeal.nD Cert.KernelIdeal.τ).loc Cert.KernelIdeal.main_arg19)
    ∧ launchContents m' c (Proc.devRef .tc Cert.ReferenceIdeal.main_arg21) = m ((c.tc : Thread Cert.KernelIdeal.nD Cert.KernelIdeal.τ).loc Cert.KernelIdeal.main_arg21)
    ∧ launchContents m' c (Proc.devRef .tc Cert.ReferenceIdeal.main_arg23) = m ((c.tc : Thread Cert.KernelIdeal.nD Cert.KernelIdeal.τ).loc Cert.KernelIdeal.main_arg23)
    ∧ launchContents m' c (Proc.devRef .tc Cert.ReferenceIdeal.main_arg10) = m ((c.tc : Thread Cert.KernelIdeal.nD Cert.KernelIdeal.τ).loc Cert.KernelIdeal.main_arg10)
    ∧ launchContents m' c (Proc.devRef .tc Cert.ReferenceIdeal.main_arg12) = m ((c.tc : Thread Cert.KernelIdeal.nD Cert.KernelIdeal.τ).loc Cert.KernelIdeal.main_arg12)
    ∧ launchContents m' c (Proc.devRef .tc Cert.ReferenceIdeal.main_arg28) = m ((c.tc : Thread Cert.KernelIdeal.nD Cert.KernelIdeal.τ).loc Cert.KernelIdeal.main_arg28)
    ∧ launchContents m' c (Proc.devRef .tc Cert.ReferenceIdeal.main_arg14) = m ((c.tc : Thread Cert.KernelIdeal.nD Cert.KernelIdeal.τ).loc Cert.KernelIdeal.main_arg14)
    ∧ launchContents m' c (Proc.devRef .tc Cert.ReferenceIdeal.main_arg16) = m ((c.tc : Thread Cert.KernelIdeal.nD Cert.KernelIdeal.τ).loc Cert.KernelIdeal.main_arg16)
    ∧ launchContents m' c (Proc.devRef .tc Cert.ReferenceIdeal.main_arg29) = m ((c.tc : Thread Cert.KernelIdeal.nD Cert.KernelIdeal.τ).loc Cert.KernelIdeal.main_arg29)
    ∧ launchContents m' c (Proc.devRef .tc Cert.ReferenceIdeal.main_arg18) = m ((c.tc : Thread Cert.KernelIdeal.nD Cert.KernelIdeal.τ).loc Cert.KernelIdeal.main_arg18)
    ∧ launchContents m' c (Proc.devRef .tc Cert.ReferenceIdeal.main_arg20) = m ((c.tc : Thread Cert.KernelIdeal.nD Cert.KernelIdeal.τ).loc Cert.KernelIdeal.main_arg20)
    ∧ launchContents m' c (Proc.devRef .tc Cert.ReferenceIdeal.main_arg30) = m ((c.tc : Thread Cert.KernelIdeal.nD Cert.KernelIdeal.τ).loc Cert.KernelIdeal.main_arg30)
    ∧ launchContents m' c (Proc.devRef .tc Cert.ReferenceIdeal.main_arg22) = m ((c.tc : Thread Cert.KernelIdeal.nD Cert.KernelIdeal.τ).loc Cert.KernelIdeal.main_arg22)
    ∧ launchContents m' c (Proc.devRef .tc Cert.ReferenceIdeal.main_arg24) = m ((c.tc : Thread Cert.KernelIdeal.nD Cert.KernelIdeal.τ).loc Cert.KernelIdeal.main_arg24)
    ∧ launchContents m' c (Proc.devRef .tc Cert.ReferenceIdeal.main_arg31) = m ((c.tc : Thread Cert.KernelIdeal.nD Cert.KernelIdeal.τ).loc Cert.KernelIdeal.main_arg31)
    ∧ launchContents m' c (Proc.devRef .tc Cert.ReferenceIdeal.main_arg25) = m ((c.tc : Thread Cert.KernelIdeal.nD Cert.KernelIdeal.τ).loc Cert.KernelIdeal.main_arg25)
    ∧ launchContents m' c (Proc.devRef .tc Cert.ReferenceIdeal.main_arg26) = m ((c.tc : Thread Cert.KernelIdeal.nD Cert.KernelIdeal.τ).loc Cert.KernelIdeal.main_arg26)
    ∧ launchContents m' c (Proc.devRef .tc Cert.ReferenceIdeal.main_arg27) = m ((c.tc : Thread Cert.KernelIdeal.nD Cert.KernelIdeal.τ).loc Cert.KernelIdeal.main_arg27)
    ∧ launchContents m' c (Proc.devRef .tc Cert.ReferenceIdeal.main_arg32) = m ((c.tc : Thread Cert.KernelIdeal.nD Cert.KernelIdeal.τ).loc Cert.KernelIdeal.main_arg32)
    ∧ launchContents m' c (Proc.devRef .tc Cert.ReferenceIdeal.main_arg33) = m ((c.tc : Thread Cert.KernelIdeal.nD Cert.KernelIdeal.τ).loc Cert.KernelIdeal.main_arg33)

variable {m m' c}

theorem params_agree (h : Agree m m' c) : Cert.ReferenceIdeal.Row.params (launchContents m' c) = Cert.KernelIdeal.Results.params m c := by
  obtain ⟨h0, h9, h11, h13, h15, h17, h19, h21, h23, h10, h12, h28, h14, h16, h29, h18, h20, h30, h22, h24, h31, h25, h26, h27, h32, h33⟩ := h
  unfold Cert.ReferenceIdeal.Row.params Cert.KernelIdeal.Results.params
  rw [h9, h11, h13, h15, h17, h19, h21, h23, h10, h12, h28, h14, h16, h29, h18, h20, h30, h22, h24, h31, h25, h26, h27]

theorem row_agree (h : Agree m m' c) (n : Fin 10000) : Cert.ReferenceIdeal.Row.row (launchContents m' c) n = Cert.KernelIdeal.Results.row m c n := by
  obtain ⟨h0, -⟩ := h
  unfold Cert.ReferenceIdeal.Row.row Cert.KernelIdeal.Results.row
  rw [h0]

theorem st_agree (h : Agree m m' c) (n : Fin 10000) (t : ℕ) :
    Cert.ReferenceIdeal.Row.st (launchContents m' c) n t = Cert.KernelIdeal.Results.st m c n t := by
  unfold Cert.ReferenceIdeal.Row.st Cert.KernelIdeal.Results.st
  rw [params_agree h, row_agree h]

/-- The cell states. -/
theorem c_agree (h : Agree m m' c) : Cert.ReferenceIdeal.Value.res_main_v321 (launchContents m' c) = Cert.KernelIdeal.Results.cArr m c := by
  funext i
  obtain ⟨n, j, rfl⟩ : ∃ (n : Fin 10000) (j : Fin 128), i = ix2 n j := ⟨i 0, i 1, by funext a; fin_cases a <;> rfl⟩
  exact (congrFun (Cert.ReferenceIdeal.Row.c3_row (launchContents m' c) n) j).trans (congrFun (congrArg Prod.snd (st_agree h n 3)) j)

/-- The hidden states. -/
theorem h_agree (h : Agree m m' c) : Cert.ReferenceIdeal.Row.lastH (launchContents m' c) = Cert.KernelIdeal.Results.hArr m c := by
  funext i
  obtain ⟨n, j, rfl⟩ : ∃ (n : Fin 10000) (j : Fin 128), i = ix2 n j := ⟨i 0, i 1, by funext a; fin_cases a <;> rfl⟩
  exact (congrFun (Cert.ReferenceIdeal.Row.h3_row (launchContents m' c) n) j).trans (congrFun (congrArg Prod.fst (st_agree h n 3)) j)

/-- The output. -/
theorem out_agree (h : Agree m m' c) : Cert.ReferenceIdeal.Row.out (launchContents m' c) = Cert.KernelIdeal.Results.outFlat m c := by
  funext i
  obtain ⟨n, rfl⟩ : ∃ n : Fin 10000, i = ix1 n := ⟨i 0, by funext a; fin_cases a; rfl⟩
  rw [Cert.ReferenceIdeal.Row.out_apply, st_agree h]
  obtain ⟨-, -, -, -, -, -, -, -, -, -, -, -, -, -, -, -, -, -, -, -, -, -, -, -, h32, h33⟩ := h
  rw [h32, h33]
  rfl

end Agree

/-! ## The claims together -/

/-- The idealization leaves the results' arrays, and the arguments as they were. -/
theorem run_ideal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v1) = Cert.KernelIdeal.Results.outFlat m c
      ∧ r.2.mem ((c.tc : Thread Cert.KernelIdeal.nD Cert.KernelIdeal.τ).loc Cert.KernelIdeal.main_v0_1) = Cert.KernelIdeal.Results.hArr m c
      ∧ r.2.mem ((c.tc : Thread Cert.KernelIdeal.nD Cert.KernelIdeal.τ).loc Cert.KernelIdeal.main_v0_2) = Cert.KernelIdeal.Results.cArr m c) :=
  (θ_run Cert.KernelIdeal.defs _ _).mono
    (fun _ h c => ⟨((h c).2 Cert.KernelIdeal.main_v1 (Pipeline.mem_restRefs_of Cert.KernelIdeal.main_v1 (by decide) (by decide))).trans (Cert.KernelIdeal.Results.final_flat m c),
      ((h c).1 27).trans (Cert.KernelIdeal.Results.final_h m c), ((h c).1 28).trans (Cert.KernelIdeal.Results.final_c m c)⟩)
    (Cert.KernelIdeal.Body.run (F := Ideal) m g)

theorem algebraic : Cert.algebraic_KernelIdeal_ReferenceIdeal := by
  intro m g m' g' _ hagree
  have ha : ∀ c, Agree m m' c := fun c => by
    obtain ⟨h0, h1, h2, h3, h4, h5, h6, h7, h8, h9, h10, h11, h12, h13, h14, h15, h16, h17, h18, h19, h20, h21, h22, h23, h24, h25, h26, h27, h28, h29, h30, h31, h32, h33⟩ := hagree c
    exact ⟨h0, h9, h11, h13, h15, h17, h19, h21, h23, h10, h12, h28, h14, h16, h29, h18, h20, h30, h22, h24, h31, h25, h26, h27, h32, h33⟩
  refine ⟨fun c => Cert.KernelIdeal.Results.outFlat m c, fun c => Cert.KernelIdeal.Results.hArr m c, fun c => Cert.KernelIdeal.Results.cArr m c, ?_, ?_⟩
  · exact (θ_run Cert.KernelIdeal.defs _ _).mono (fun _ h c => ⟨(h.1 c).1, (h.1 c).2.1, (h.1 c).2.2, h.2.1 c⟩)
      (θ_run_and (run_ideal m g) (Cert.KernelIdeal.Body.frame (F := Ideal) m g))
  · exact (θ_run Cert.ReferenceIdeal.defs _ _).mono
      (fun _ h c => ⟨((h c).1).trans (out_agree (ha c)), ((h c).2.1).trans (h_agree (ha c)), ((h c).2.2.1).trans (c_agree (ha c)), (h c).2.2.2⟩)
      (Cert.ReferenceIdeal.Value.run (F := Ideal) m' g')

/-- Every claim. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
